-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel) (hPre_sorted_segments := hPre_sorted_segments)
    ∧ quiescent_KernelIdeal (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal (hKernelIdeal := hKernelIdeal) (hReferenceIdeal := hReferenceIdeal) (hPre_sorted_segments := hPre_sorted_segments)
-- ==== Pre_sorted_segments.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S319999 : Shape := ⟨1, ![319999]⟩
abbrev S_ : Shape := ⟨0, ![]⟩

class Facts : Prop where
  slices_S320000_S1_0 : S320000.Slices ![0] S1
  slices_S320000_S319999_0 : S320000.Slices ![0] S319999
  concatenates_S1_S319999_S320000_d0 : Shape.Concatenates [S1, S319999] S320000 0
  bcast_S_S320000 : S_.BroadcastsInDim S320000 (![] : Fin 0 → Fin S320000.rank)

variable [Facts]

def fn {F : FTy → Type} [FloatOps F] (main_arg0 : FVec F S320000x128 .f32) (main_arg1 : IVec S320000 32) (main_arg2 : FVec F S128x128 .f32) (main_arg3 : FVec F S128 .f32) (main_arg4 : FVec F S1x128 .f32) (main_arg5 : FVec F S1 .f32) : IVec S320000 1 :=
  let main_v0 : IVec S1 32 := (extractStridedSlice S1 ![0] · slices_S320000_S1_0) main_arg1
  let main_v1 : IVec S319999 32 := (extractStridedSlice S319999 ![0] · slices_S320000_S319999_0) main_arg1
  let main_v2 : IVec S320000 32 := (fun a b => concatenate S320000 0 [⟨S1, a⟩, ⟨S319999, b⟩] concatenates_S1_S319999_S320000_d0) main_v0 main_v1
  let main_c : IVec S_ 32 := constantI S_ 32 0#32
  let main_v3 : IVec S320000 32 := broadcastInDim S320000 ![] bcast_S_S320000 main_c
  let main_v4 : IVec S320000 1 := cmpi .sge main_arg1 main_v3
  let main_c_0 : IVec S_ 32 := constantI S_ 32 1024#32
  let main_v5 : IVec S320000 32 := broadcastInDim S320000 ![] bcast_S_S320000 main_c_0
  let main_v6 : IVec S320000 1 := cmpi .slt main_arg1 main_v5
  let main_v7 : IVec S320000 1 := andi main_v4 main_v6
  let main_v8 : IVec S320000 1 := cmpi .sle main_v2 main_arg1
  let main_v9 : IVec S320000 1 := andi main_v7 main_v8
  main_v9
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S40x1x8000 : Shape := ⟨3, ![40, 1, 8000]⟩
abbrev S40x1x1 : Shape := ⟨3, ![40, 1, 1]⟩
abbrev S40 : Shape := ⟨1, ![40]⟩
abbrev S_ : Shape := ⟨0, ![]⟩
abbrev S40x1 : Shape := ⟨2, ![40, 1]⟩
abbrev S40x2 : Shape := ⟨2, ![40, 2]⟩
abbrev S1024x128 : Shape := ⟨2, ![1024, 128]⟩
abbrev S1x1x8000 : Shape := ⟨3, ![1, 1, 8000]⟩
abbrev S8000x128 : Shape := ⟨2, ![8000, 128]⟩
abbrev S1104x128 : Shape := ⟨2, ![1104, 128]⟩
abbrev S1104x1 : Shape := ⟨2, ![1104, 1]⟩
abbrev S1x8000 : Shape := ⟨2, ![1, 8000]⟩
abbrev S1x1 : Shape := ⟨2, ![1, 1]⟩
abbrev S40x8000 : Shape := ⟨2, ![40, 8000]⟩
abbrev S8000 : Shape := ⟨1, ![8000]⟩
abbrev S40x128 : Shape := ⟨2, ![40, 128]⟩
abbrev S1024x1 : Shape := ⟨2, ![1024, 1]⟩

abbrev nBuf : Space → Nat
  | .hbm => 37
  | .vmem => 18
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S40x1x8000, .i32⟩
  | .hbm, ⟨7, _⟩ => ⟨S40x1x1, .i32⟩
  | .hbm, ⟨8, _⟩ => ⟨S40, .i32⟩
  | .hbm, ⟨9, _⟩ => ⟨S_, .i32⟩
  | .hbm, ⟨10, _⟩ => ⟨S_, .i32⟩
  | .hbm, ⟨11, _⟩ => ⟨S40, .i32⟩
  | .hbm, ⟨12, _⟩ => ⟨S40, .i32⟩
  | .hbm, ⟨13, _⟩ => ⟨S40, .i32⟩
  | .hbm, ⟨14, _⟩ => ⟨S_, .i32⟩
  | .hbm, ⟨15, _⟩ => ⟨S40, .i32⟩
  | .hbm, ⟨16, _⟩ => ⟨S40, .i1⟩
  | .hbm, ⟨17, _⟩ => ⟨S40, .i32⟩
  | .hbm, ⟨18, _⟩ => ⟨S40, .i32⟩
  | .hbm, ⟨19, _⟩ => ⟨S_, .i32⟩
  | .hbm, ⟨20, _⟩ => ⟨S40, .i32⟩
  | .hbm, ⟨21, _⟩ => ⟨S40, .i1⟩
  | .hbm, ⟨22, _⟩ => ⟨S40, .i1⟩
  | .hbm, ⟨23, _⟩ => ⟨S_, .i32⟩
  | .hbm, ⟨24, _⟩ => ⟨S40, .i32⟩
  | .hbm, ⟨25, _⟩ => ⟨S40, .i32⟩
  | .hbm, ⟨26, _⟩ => ⟨S40, .i32⟩
  | .hbm, ⟨27, _⟩ => ⟨S_, .i32⟩
  | .hbm, ⟨28, _⟩ => ⟨S40, .i32⟩
  | .hbm, ⟨29, _⟩ => ⟨S40, .i32⟩
  | .hbm, ⟨30, _⟩ => ⟨S40x1x1, .i32⟩
  | .hbm, ⟨31, _⟩ => ⟨S40, .i32⟩
  | .hbm, ⟨32, _⟩ => ⟨S40x1, .i32⟩
  | .hbm, ⟨33, _⟩ => ⟨S40x1, .i32⟩
  | .hbm, ⟨34, _⟩ => ⟨S40x2, .i32⟩
  | .hbm, ⟨35, _⟩ => ⟨S1x128, .f32⟩
  | .hbm, ⟨36, _⟩ => ⟨S1024x128, .f32⟩
  | .local _ .vmem, ⟨0, _⟩ => ⟨S1x1x8000, .i32⟩
  | .local _ .vmem, ⟨1, _⟩ => ⟨S1x1x8000, .i32⟩
  | .local _ .vmem, ⟨2, _⟩ => ⟨S1x1x8000, .i32⟩
  | .local _ .vmem, ⟨3, _⟩ => ⟨S1x1x8000, .i32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1024x128, .f32⟩
  | .local _ .vmem, ⟨12, _⟩ => ⟨S1104x128, .f32⟩
  | .local _ .vmem, ⟨13, _⟩ => ⟨S1104x128, .f32⟩
  | .local _ .vmem, ⟨14, _⟩ => ⟨S1104x1, .f32⟩
  | .local _ .vmem, ⟨15, _⟩ => ⟨S1104x1, .f32⟩
  | .local _ .vmem, ⟨16, _⟩ => ⟨S1104x1, .f32⟩
  | .local _ .vmem, ⟨17, _⟩ => ⟨S1104x1, .f32⟩
  | .local _ .smem, ⟨0, _⟩ => ⟨S40x2, .i32⟩
  | .local _ .smem, ⟨1, _⟩ => ⟨S1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![20], ![false]⟩

def k0_off1 (i : grid0.Coords) (c0_i32_22 : BitVec 32) : Fin 2 → Nat :=
  let arg0 : BitVec 32 := BitVec.ofNat 32 (i 0).val
  let v37 : BitVec 32 := Scalar.addi c0_i32_22 arg0
  let v38 : Index := Scalar.indexCast v37
  let c0_23 : Index := 0#32
  ![v38.toNat, 0]
def k0_off2 (i : grid0.Coords) (c0_i32_25 : BitVec 32) : Fin 2 → Nat :=
  let arg0 : BitVec 32 := BitVec.ofNat 32 (i 0).val
  let v43 : BitVec 32 := Scalar.addi c0_i32_25 arg0
  let v44 : Index := Scalar.indexCast v43
  let c1 : Index := 1#32
  ![v44.toNat, 1]
@[reducible] def k0_t1_loop (v39 : BitVec 32) (v42 : BitVec 32) (v45 : BitVec 32) (v67 : BitVec 32) : Scf.Loop 32 :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_45 : BitVec 32 := 1#32
  ⟨c0_i32_43, v92, c1_i32_45⟩

def k0_off3 (v39 : BitVec 32) (v42 : BitVec 32) (v45 : BitVec 32) (v67 : BitVec 32) (k0_t1 : Fin (k0_t1_loop v39 v42 v45 v67).trips) : Fin 2 → Nat :=
  let c0_i32_43 : BitVec 32 := 0#32
  let c1_i32_45 : BitVec 32 := 1#32
  let arg17 : BitVec 32 := Scf.iv c0_i32_43 c1_i32_45 k0_t1
  let c40_i32_50 : BitVec 32 := 40#32
  let v102 : BitVec 32 := Scalar.muli arg17 c40_i32_50
  let v103 : BitVec 32 := Scalar.addi v39 v102
  let v116 : Index := Scalar.indexCast v103
  let c0_53 : Index := 0#32
  ![v116.toNat, 0]
def k0_cond2 (v39 : BitVec 32) (v42 : BitVec 32) (v45 : BitVec 32) (v67 : BitVec 32) (k0_t1 : Fin (k0_t1_loop v39 v42 v45 v67).trips) : BitVec 1 :=
  let c0_i32_43 : BitVec 32 := 0#32
  let c1_i32_45 : BitVec 32 := 1#32
  let arg17 : BitVec 32 := Scf.iv c0_i32_43 c1_i32_45 k0_t1
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v96 : BitVec 1 := Scalar.cmpi .slt arg17 v64
  let v97 : BitVec 32 := Scalar.extui v96
  let c0_i32_48 : BitVec 32 := 0#32
  let v98 : BitVec 1 := Scalar.cmpi .ne v97 c0_i32_48
  v98

def k0_off4 (v39 : BitVec 32) (v42 : BitVec 32) (v45 : BitVec 32) (v67 : BitVec 32) (k0_t1 : Fin (k0_t1_loop v39 v42 v45 v67).trips) : Fin 2 → Nat :=
  let c0_i32_43 : BitVec 32 := 0#32
  let c1_i32_45 : BitVec 32 := 1#32
  let arg17 : BitVec 32 := Scf.iv c0_i32_43 c1_i32_45 k0_t1
  let c40_i32_50 : BitVec 32 := 40#32
  let v102 : BitVec 32 := Scalar.muli arg17 c40_i32_50
  let v103 : BitVec 32 := Scalar.addi v39 v102
  let v157 : Index := Scalar.indexCast v103
  let c0_64 : Index := 0#32
  ![v157.toNat, 0]
def k0_off5 (v39 : BitVec 32) (v42 : BitVec 32) (v45 : BitVec 32) (v67 : BitVec 32) (k0_t1 : Fin (k0_t1_loop v39 v42 v45 v67).trips) : Fin 2 → Nat :=
  let c0_i32_43 : BitVec 32 := 0#32
  let c1_i32_45 : BitVec 32 := 1#32
  let arg17 : BitVec 32 := Scf.iv c0_i32_43 c1_i32_45 k0_t1
  let c40_i32_50 : BitVec 32 := 40#32
  let v102 : BitVec 32 := Scalar.muli arg17 c40_i32_50
  let v103 : BitVec 32 := Scalar.addi v42 v102
  let v116 : Index := Scalar.indexCast v103
  let c0_53 : Index := 0#32
  ![v116.toNat, 0]
def k0_cond3 (v39 : BitVec 32) (v42 : BitVec 32) (v45 : BitVec 32) (v67 : BitVec 32) (k0_t1 : Fin (k0_t1_loop v39 v42 v45 v67).trips) : BitVec 1 :=
  let c0_i32_43 : BitVec 32 := 0#32
  let c1_i32_45 : BitVec 32 := 1#32
  let arg17 : BitVec 32 := Scf.iv c0_i32_43 c1_i32_45 k0_t1
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v99 : BitVec 1 := Scalar.cmpi .slt arg17 v86
  let v100 : BitVec 32 := Scalar.extui v99
  let c0_i32_49 : BitVec 32 := 0#32
  let v101 : BitVec 1 := Scalar.cmpi .ne v100 c0_i32_49
  v101

def k0_off6 (v39 : BitVec 32) (v42 : BitVec 32) (v45 : BitVec 32) (v67 : BitVec 32) (k0_t1 : Fin (k0_t1_loop v39 v42 v45 v67).trips) : Fin 2 → Nat :=
  let c0_i32_43 : BitVec 32 := 0#32
  let c1_i32_45 : BitVec 32 := 1#32
  let arg17 : BitVec 32 := Scf.iv c0_i32_43 c1_i32_45 k0_t1
  let c40_i32_50 : BitVec 32 := 40#32
  let v102 : BitVec 32 := Scalar.muli arg17 c40_i32_50
  let v103 : BitVec 32 := Scalar.addi v42 v102
  let v157 : Index := Scalar.indexCast v103
  let c0_64 : Index := 0#32
  ![v157.toNat, 0]
@[reducible] def k0_t2_loop (v39 : BitVec 32) (v42 : BitVec 32) (v45 : BitVec 32) (v67 : BitVec 32) : Scf.Loop 32 :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let v89 : BitVec 32 := Scalar.addi c0_i32_43 v88
  let c1_i32_46 : BitVec 32 := 1#32
  ⟨v92, v89, c1_i32_46⟩
def k0_off7 (v39 : BitVec 32) (v42 : BitVec 32) (v45 : BitVec 32) (v67 : BitVec 32) (k0_t2 : Fin (k0_t2_loop v39 v42 v45 v67).trips) : Fin 2 → Nat :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg17 : BitVec 32 := Scf.iv v92 c1_i32_46 k0_t2
  let c40_i32_50 : BitVec 32 := 40#32
  let v102 : BitVec 32 := Scalar.muli arg17 c40_i32_50
  let v103 : BitVec 32 := Scalar.addi v39 v102
  let v116 : Index := Scalar.indexCast v103
  let c0_53 : Index := 0#32
  ![v116.toNat, 0]
def k0_cond4 (v39 : BitVec 32) (v42 : BitVec 32) (v45 : BitVec 32) (v67 : BitVec 32) (k0_t2 : Fin (k0_t2_loop v39 v42 v45 v67).trips) : BitVec 1 :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg17 : BitVec 32 := Scf.iv v92 c1_i32_46 k0_t2
  let v96 : BitVec 1 := Scalar.cmpi .slt arg17 v64
  let v97 : BitVec 32 := Scalar.extui v96
  let c0_i32_48 : BitVec 32 := 0#32
  let v98 : BitVec 1 := Scalar.cmpi .ne v97 c0_i32_48
  v98

def k0_off8 (v39 : BitVec 32) (v42 : BitVec 32) (v45 : BitVec 32) (v67 : BitVec 32) (k0_t2 : Fin (k0_t2_loop v39 v42 v45 v67).trips) : Fin 2 → Nat :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg17 : BitVec 32 := Scf.iv v92 c1_i32_46 k0_t2
  let c40_i32_50 : BitVec 32 := 40#32
  let v102 : BitVec 32 := Scalar.muli arg17 c40_i32_50
  let v103 : BitVec 32 := Scalar.addi v39 v102
  let v157 : Index := Scalar.indexCast v103
  let c0_64 : Index := 0#32
  ![v157.toNat, 0]
def k0_off9 (v39 : BitVec 32) (v42 : BitVec 32) (v45 : BitVec 32) (v67 : BitVec 32) (k0_t2 : Fin (k0_t2_loop v39 v42 v45 v67).trips) : Fin 2 → Nat :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg17 : BitVec 32 := Scf.iv v92 c1_i32_46 k0_t2
  let c40_i32_50 : BitVec 32 := 40#32
  let v102 : BitVec 32 := Scalar.muli arg17 c40_i32_50
  let v103 : BitVec 32 := Scalar.addi v42 v102
  let v116 : Index := Scalar.indexCast v103
  let c0_53 : Index := 0#32
  ![v116.toNat, 0]
def k0_cond5 (v39 : BitVec 32) (v42 : BitVec 32) (v45 : BitVec 32) (v67 : BitVec 32) (k0_t2 : Fin (k0_t2_loop v39 v42 v45 v67).trips) : BitVec 1 :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg17 : BitVec 32 := Scf.iv v92 c1_i32_46 k0_t2
  let v99 : BitVec 1 := Scalar.cmpi .slt arg17 v86
  let v100 : BitVec 32 := Scalar.extui v99
  let c0_i32_49 : BitVec 32 := 0#32
  let v101 : BitVec 1 := Scalar.cmpi .ne v100 c0_i32_49
  v101

def k0_off10 (v39 : BitVec 32) (v42 : BitVec 32) (v45 : BitVec 32) (v67 : BitVec 32) (k0_t2 : Fin (k0_t2_loop v39 v42 v45 v67).trips) : Fin 2 → Nat :=
  let c0_i32_43 : BitVec 32 := 0#32
  let v46 : BitVec 32 := Scalar.subi v45 v39
  let c0_i32_26 : BitVec 32 := 0#32
  let v48 : BitVec 1 := Scalar.cmpi .sgt v46 c0_i32_26
  let v49 : BitVec 32 := Scalar.extui v48
  let c0_i32_27 : BitVec 32 := 0#32
  let v50 : BitVec 1 := Scalar.cmpi .slt v46 c0_i32_27
  let v51 : BitVec 32 := Scalar.extui v50
  let v52 : BitVec 32 := Scalar.subi v49 v51
  let c40_i32 : BitVec 32 := 40#32
  let c0_i32_28 : BitVec 32 := 0#32
  let v53 : BitVec 1 := Scalar.cmpi .sgt c40_i32 c0_i32_28
  let v54 : BitVec 32 := Scalar.extui v53
  let c0_i32_29 : BitVec 32 := 0#32
  let v55 : BitVec 1 := Scalar.cmpi .slt c40_i32 c0_i32_29
  let v56 : BitVec 32 := Scalar.extui v55
  let v57 : BitVec 32 := Scalar.subi v54 v56
  let v58 : BitVec 1 := Scalar.cmpi .ne v52 v57
  let v59 : BitVec 32 := Scalar.remsi v46 c40_i32
  let c0_i32_30 : BitVec 32 := 0#32
  let v60 : BitVec 1 := Scalar.cmpi .ne v59 c0_i32_30
  let v61 : BitVec 1 := Scalar.andi v58 v60
  let v47 : BitVec 32 := Scalar.divsi v46 c40_i32
  let c1_i32 : BitVec 32 := 1#32
  let v62 : BitVec 32 := Scalar.subi v47 c1_i32
  let v63 : BitVec 32 := Scalar.select v61 v62 v47
  let c1_i32_31 : BitVec 32 := 1#32
  let v64 : BitVec 32 := Scalar.addi v63 c1_i32_31
  let v68 : BitVec 32 := Scalar.subi v67 v42
  let c0_i32_35 : BitVec 32 := 0#32
  let v70 : BitVec 1 := Scalar.cmpi .sgt v68 c0_i32_35
  let v71 : BitVec 32 := Scalar.extui v70
  let c0_i32_36 : BitVec 32 := 0#32
  let v72 : BitVec 1 := Scalar.cmpi .slt v68 c0_i32_36
  let v73 : BitVec 32 := Scalar.extui v72
  let v74 : BitVec 32 := Scalar.subi v71 v73
  let c40_i32_34 : BitVec 32 := 40#32
  let c0_i32_37 : BitVec 32 := 0#32
  let v75 : BitVec 1 := Scalar.cmpi .sgt c40_i32_34 c0_i32_37
  let v76 : BitVec 32 := Scalar.extui v75
  let c0_i32_38 : BitVec 32 := 0#32
  let v77 : BitVec 1 := Scalar.cmpi .slt c40_i32_34 c0_i32_38
  let v78 : BitVec 32 := Scalar.extui v77
  let v79 : BitVec 32 := Scalar.subi v76 v78
  let v80 : BitVec 1 := Scalar.cmpi .ne v74 v79
  let v81 : BitVec 32 := Scalar.remsi v68 c40_i32_34
  let c0_i32_39 : BitVec 32 := 0#32
  let v82 : BitVec 1 := Scalar.cmpi .ne v81 c0_i32_39
  let v83 : BitVec 1 := Scalar.andi v80 v82
  let v69 : BitVec 32 := Scalar.divsi v68 c40_i32_34
  let c1_i32_40 : BitVec 32 := 1#32
  let v84 : BitVec 32 := Scalar.subi v69 c1_i32_40
  let v85 : BitVec 32 := Scalar.select v83 v84 v69
  let c1_i32_41 : BitVec 32 := 1#32
  let v86 : BitVec 32 := Scalar.addi v85 c1_i32_41
  let v87 : BitVec 32 := Scalar.maxsi v64 v86
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg17 : BitVec 32 := Scf.iv v92 c1_i32_46 k0_t2
  let c40_i32_50 : BitVec 32 := 40#32
  let v102 : BitVec 32 := Scalar.muli arg17 c40_i32_50
  let v103 : BitVec 32 := Scalar.addi v42 v102
  let v157 : Index := Scalar.indexCast v103
  let c0_64 : Index := 0#32
  ![v157.toNat, 0]

def k0_chk1 (v39 : BitVec 32) (v42 : BitVec 32) (v45 : BitVec 32) (v67 : BitVec 32) : Prop :=
  ((k0_t1_loop v39 v42 v45 v67).OK) ∧
  (∀ k0_t1 : Fin (k0_t1_loop v39 v42 v45 v67).trips, ∀ (k0_h2 : k0_cond2 v39 v42 v45 v67 k0_t1 = 1#1), ∀ a, (k0_off3 v39 v42 v45 v67 k0_t1) a + S40x1.size a ≤ S1104x1.size a) ∧
  (∀ k0_t1 : Fin (k0_t1_loop v39 v42 v45 v67).trips, ∀ (k0_h2 : k0_cond2 v39 v42 v45 v67 k0_t1 = 1#1), ∀ a, (k0_off4 v39 v42 v45 v67 k0_t1) a + S40x128.size a ≤ S1104x128.size a) ∧
  (∀ k0_t1 : Fin (k0_t1_loop v39 v42 v45 v67).trips, ∀ (k0_h3 : k0_cond3 v39 v42 v45 v67 k0_t1 = 1#1), ∀ a, (k0_off5 v39 v42 v45 v67 k0_t1) a + S40x1.size a ≤ S1104x1.size a) ∧
  (∀ k0_t1 : Fin (k0_t1_loop v39 v42 v45 v67).trips, ∀ (k0_h3 : k0_cond3 v39 v42 v45 v67 k0_t1 = 1#1), ∀ a, (k0_off6 v39 v42 v45 v67 k0_t1) a + S40x128.size a ≤ S1104x128.size a) ∧
  ((k0_t2_loop v39 v42 v45 v67).OK) ∧
  (∀ k0_t2 : Fin (k0_t2_loop v39 v42 v45 v67).trips, ∀ (k0_h4 : k0_cond4 v39 v42 v45 v67 k0_t2 = 1#1), ∀ a, (k0_off7 v39 v42 v45 v67 k0_t2) a + S40x1.size a ≤ S1104x1.size a) ∧
  (∀ k0_t2 : Fin (k0_t2_loop v39 v42 v45 v67).trips, ∀ (k0_h4 : k0_cond4 v39 v42 v45 v67 k0_t2 = 1#1), ∀ a, (k0_off8 v39 v42 v45 v67 k0_t2) a + S40x128.size a ≤ S1104x128.size a) ∧
  (∀ k0_t2 : Fin (k0_t2_loop v39 v42 v45 v67).trips, ∀ (k0_h5 : k0_cond5 v39 v42 v45 v67 k0_t2 = 1#1), ∀ a, (k0_off9 v39 v42 v45 v67 k0_t2) a + S40x1.size a ≤ S1104x1.size a) ∧
  (∀ k0_t2 : Fin (k0_t2_loop v39 v42 v45 v67).trips, ∀ (k0_h5 : k0_cond5 v39 v42 v45 v67 k0_t2 = 1#1), ∀ a, (k0_off10 v39 v42 v45 v67 k0_t2) a + S40x128.size a ≤ S1104x128.size a)
theorem k0_t1_ok : ∀ (v39 : BitVec 32) (v42 : BitVec 32) (v45 : BitVec 32) (v67 : BitVec 32) (k0_hw1 : k0_chk1 v39 v42 v45 v67), (k0_t1_loop v39 v42 v45 v67).OK := fun v39 v42 v45 v67 k0_hw1 => k0_hw1.1
theorem k0_off3_inb : ∀ (v39 : BitVec 32) (v42 : BitVec 32) (v45 : BitVec 32) (v67 : BitVec 32) (k0_hw1 : k0_chk1 v39 v42 v45 v67) (k0_t1 : Fin (k0_t1_loop v39 v42 v45 v67).trips), ∀ (k0_h2 : k0_cond2 v39 v42 v45 v67 k0_t1 = 1#1), ∀ a, (k0_off3 v39 v42 v45 v67 k0_t1) a + S40x1.size a ≤ S1104x1.size a := fun v39 v42 v45 v67 k0_hw1 k0_t1 k0_h2 => k0_hw1.2.1 k0_t1 k0_h2
theorem k0_off4_inb : ∀ (v39 : BitVec 32) (v42 : BitVec 32) (v45 : BitVec 32) (v67 : BitVec 32) (k0_hw1 : k0_chk1 v39 v42 v45 v67) (k0_t1 : Fin (k0_t1_loop v39 v42 v45 v67).trips), ∀ (k0_h2 : k0_cond2 v39 v42 v45 v67 k0_t1 = 1#1), ∀ a, (k0_off4 v39 v42 v45 v67 k0_t1) a + S40x128.size a ≤ S1104x128.size a := fun v39 v42 v45 v67 k0_hw1 k0_t1 k0_h2 => k0_hw1.2.2.1 k0_t1 k0_h2
theorem k0_off5_inb : ∀ (v39 : BitVec 32) (v42 : BitVec 32) (v45 : BitVec 32) (v67 : BitVec 32) (k0_hw1 : k0_chk1 v39 v42 v45 v67) (k0_t1 : Fin (k0_t1_loop v39 v42 v45 v67).trips), ∀ (k0_h3 : k0_cond3 v39 v42 v45 v67 k0_t1 = 1#1), ∀ a, (k0_off5 v39 v42 v45 v67 k0_t1) a + S40x1.size a ≤ S1104x1.size a := fun v39 v42 v45 v67 k0_hw1 k0_t1 k0_h3 => k0_hw1.2.2.2.1 k0_t1 k0_h3
theorem k0_off6_inb : ∀ (v39 : BitVec 32) (v42 : BitVec 32) (v45 : BitVec 32) (v67 : BitVec 32) (k0_hw1 : k0_chk1 v39 v42 v45 v67) (k0_t1 : Fin (k0_t1_loop v39 v42 v45 v67).trips), ∀ (k0_h3 : k0_cond3 v39 v42 v45 v67 k0_t1 = 1#1), ∀ a, (k0_off6 v39 v42 v45 v67 k0_t1) a + S40x128.size a ≤ S1104x128.size a := fun v39 v42 v45 v67 k0_hw1 k0_t1 k0_h3 => k0_hw1.2.2.2.2.1 k0_t1 k0_h3
theorem k0_t2_ok : ∀ (v39 : BitVec 32) (v42 : BitVec 32) (v45 : BitVec 32) (v67 : BitVec 32) (k0_hw1 : k0_chk1 v39 v42 v45 v67), (k0_t2_loop v39 v42 v45 v67).OK := fun v39 v42 v45 v67 k0_hw1 => k0_hw1.2.2.2.2.2.1
theorem k0_off7_inb : ∀ (v39 : BitVec 32) (v42 : BitVec 32) (v45 : BitVec 32) (v67 : BitVec 32) (k0_hw1 : k0_chk1 v39 v42 v45 v67) (k0_t2 : Fin (k0_t2_loop v39 v42 v45 v67).trips), ∀ (k0_h4 : k0_cond4 v39 v42 v45 v67 k0_t2 = 1#1), ∀ a, (k0_off7 v39 v42 v45 v67 k0_t2) a + S40x1.size a ≤ S1104x1.size a := fun v39 v42 v45 v67 k0_hw1 k0_t2 k0_h4 => k0_hw1.2.2.2.2.2.2.1 k0_t2 k0_h4
theorem k0_off8_inb : ∀ (v39 : BitVec 32) (v42 : BitVec 32) (v45 : BitVec 32) (v67 : BitVec 32) (k0_hw1 : k0_chk1 v39 v42 v45 v67) (k0_t2 : Fin (k0_t2_loop v39 v42 v45 v67).trips), ∀ (k0_h4 : k0_cond4 v39 v42 v45 v67 k0_t2 = 1#1), ∀ a, (k0_off8 v39 v42 v45 v67 k0_t2) a + S40x128.size a ≤ S1104x128.size a := fun v39 v42 v45 v67 k0_hw1 k0_t2 k0_h4 => k0_hw1.2.2.2.2.2.2.2.1 k0_t2 k0_h4
theorem k0_off9_inb : ∀ (v39 : BitVec 32) (v42 : BitVec 32) (v45 : BitVec 32) (v67 : BitVec 32) (k0_hw1 : k0_chk1 v39 v42 v45 v67) (k0_t2 : Fin (k0_t2_loop v39 v42 v45 v67).trips), ∀ (k0_h5 : k0_cond5 v39 v42 v45 v67 k0_t2 = 1#1), ∀ a, (k0_off9 v39 v42 v45 v67 k0_t2) a + S40x1.size a ≤ S1104x1.size a := fun v39 v42 v45 v67 k0_hw1 k0_t2 k0_h5 => k0_hw1.2.2.2.2.2.2.2.2.1 k0_t2 k0_h5
theorem k0_off10_inb : ∀ (v39 : BitVec 32) (v42 : BitVec 32) (v45 : BitVec 32) (v67 : BitVec 32) (k0_hw1 : k0_chk1 v39 v42 v45 v67) (k0_t2 : Fin (k0_t2_loop v39 v42 v45 v67).trips), ∀ (k0_h5 : k0_cond5 v39 v42 v45 v67 k0_t2 = 1#1), ∀ a, (k0_off10 v39 v42 v45 v67 k0_t2) a + S40x128.size a ≤ S1104x128.size a := fun v39 v42 v45 v67 k0_hw1 k0_t2 k0_h5 => k0_hw1.2.2.2.2.2.2.2.2.2 k0_t2 k0_h5

def k0_cond6 (i : grid0.Coords) : BitVec 1 :=
  let arg0 : BitVec 32 := BitVec.ofNat 32 (i 0).val
  let c19_i32 : BitVec 32 := 19#32
  let v93 : BitVec 1 := Scalar.cmpi .eq arg0 c19_i32
  let v94 : BitVec 32 := Scalar.extui v93
  let c0_i32_47 : BitVec 32 := 0#32
  let v95 : BitVec 1 := Scalar.cmpi .ne v94 c0_i32_47
  v95

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S40x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S128x1 : Shape := ⟨2, ![128, 1]⟩
abbrev S320000x1 : Shape := ⟨2, ![320000, 1]⟩
abbrev S1x1 : Shape := ⟨2, ![1, 1]⟩
abbrev S1x320000 : Shape := ⟨2, ![1, 320000]⟩
abbrev S1024 : Shape := ⟨1, ![1024]⟩
abbrev S1024x1 : Shape := ⟨2, ![1024, 1]⟩
abbrev S1024x320000 : Shape := ⟨2, ![1024, 320000]⟩
abbrev S1024x128 : Shape := ⟨2, ![1024, 128]⟩

abbrev nBuf : Space → Nat
  | .hbm => 86
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S128x128, .f32⟩
  | .hbm, ⟨7, _⟩ => ⟨S320000x128, .f32⟩
  | .hbm, ⟨8, _⟩ => ⟨S1x128, .f32⟩
  | .hbm, ⟨9, _⟩ => ⟨S320000x128, .f32⟩
  | .hbm, ⟨10, _⟩ => ⟨S320000x128, .f32⟩
  | .hbm, ⟨11, _⟩ => ⟨S_, .f32⟩
  | .hbm, ⟨12, _⟩ => ⟨S320000x128, .f32⟩
  | .hbm, ⟨13, _⟩ => ⟨S320000x128, .f32⟩
  | .hbm, ⟨14, _⟩ => ⟨S128x1, .f32⟩
  | .hbm, ⟨15, _⟩ => ⟨S320000x1, .f32⟩
  | .hbm, ⟨16, _⟩ => ⟨S1x1, .f32⟩
  | .hbm, ⟨17, _⟩ => ⟨S320000x1, .f32⟩
  | .hbm, ⟨18, _⟩ => ⟨S320000x1, .f32⟩
  | .hbm, ⟨19, _⟩ => ⟨S320000, .f32⟩
  | .hbm, ⟨20, _⟩ => ⟨S1x320000, .i32⟩
  | .hbm, ⟨21, _⟩ => ⟨S1024, .i32⟩
  | .hbm, ⟨22, _⟩ => ⟨S1024x1, .i32⟩
  | .hbm, ⟨23, _⟩ => ⟨S1024x320000, .i32⟩
  | .hbm, ⟨24, _⟩ => ⟨S1024x320000, .i32⟩
  | .hbm, ⟨25, _⟩ => ⟨S1024x320000, .i1⟩
  | .hbm, ⟨26, _⟩ => ⟨S1x320000, .f32⟩
  | .hbm, ⟨27, _⟩ => ⟨S_, .f32⟩
  | .hbm, ⟨28, _⟩ => ⟨S_, .f32⟩
  | .hbm, ⟨29, _⟩ => ⟨S1024x320000, .f32⟩
  | .hbm, ⟨30, _⟩ => ⟨S1024x320000, .f32⟩
  | .hbm, ⟨31, _⟩ => ⟨S1024x320000, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000, .f32⟩
  | .hbm, ⟨46, _⟩ => ⟨S320000, .f32⟩
  | .hbm, ⟨47, _⟩ => ⟨S320000, .f32⟩
  | .hbm, ⟨48, _⟩ => ⟨S_, .f32⟩
  | .hbm, ⟨49, _⟩ => ⟨S1024, .f32⟩
  | .hbm, ⟨50, _⟩ => ⟨S_, .i32⟩
  | .hbm, ⟨51, _⟩ => ⟨S320000, .i32⟩
  | .hbm, ⟨52, _⟩ => ⟨S320000, .i1⟩
  | .hbm, ⟨53, _⟩ => ⟨S_, .i32⟩
  | .hbm, ⟨54, _⟩ => ⟨S320000, .i32⟩
  | .hbm, ⟨55, _⟩ => ⟨S320000, .i32⟩
  | .hbm, ⟨56, _⟩ => ⟨S320000, .i32⟩
  | .hbm, ⟨57, _⟩ => ⟨S320000x1, .i32⟩
  | .hbm, ⟨58, _⟩ => ⟨S1024, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000, .f32⟩
  | .hbm, ⟨68, _⟩ => ⟨S_, .f32⟩
  | .hbm, ⟨69, _⟩ => ⟨S320000, .f32⟩
  | .hbm, ⟨70, _⟩ => ⟨S320000, .f32⟩
  | .hbm, ⟨71, _⟩ => ⟨S320000, .f32⟩
  | .hbm, ⟨72, _⟩ => ⟨S320000x1, .f32⟩
  | .hbm, ⟨73, _⟩ => ⟨S320000x128, .f32⟩
  | .hbm, ⟨74, _⟩ => ⟨S320000x128, .f32⟩
  | .hbm, ⟨75, _⟩ => ⟨S_, .f32⟩
  | .hbm, ⟨76, _⟩ => ⟨S1024x128, .f32⟩
  | .hbm, ⟨77, _⟩ => ⟨S_, .i32⟩
  | .hbm, ⟨78, _⟩ => ⟨S320000, .i32⟩
  | .hbm, ⟨79, _⟩ => ⟨S320000, .i1⟩
  | .hbm, ⟨80, _⟩ => ⟨S_, .i32⟩
  | .hbm, ⟨81, _⟩ => ⟨S320000, .i32⟩
  | .hbm, ⟨82, _⟩ => ⟨S320000, .i32⟩
  | .hbm, ⟨83, _⟩ => ⟨S320000, .i32⟩
  | .hbm, ⟨84, _⟩ => ⟨S320000x1, .i32⟩
  | .hbm, ⟨85, _⟩ => ⟨S1024x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held whole at the contents `f`. -/
abbrev own (c : Dev nD) {sp : Space} {s : Shape} {e : EltTy} (a : Memref sig .tc sp s e) (f : Buf (Elt F) (a.view.loc (c : Thread nD τ))) : sProp 𝕄 :=
  a.view.loc (c : Thread nD τ) ↦[a.view.set]{fullShare} f

/-! ## One trip of the loop over the id windows -/

section Trip

variable (c : Dev nD) (i : grid0.Coords) (arg1 : Memref sig .tc .smem S40x2 .i32) (harg1 : arg1.IsWhole) (arg2 : Memref sig .tc .smem S1 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S8000x128 .f32) (harg5 : arg5.IsWhole) (arg6 : Memref sig .tc .vmem S8000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1104x128 .f32) (harg11 : arg11.IsWhole) (arg12 : Memref sig .tc .vmem S1104x128 .f32) (harg12 : arg12.IsWhole) (arg13 : Memref sig .tc .vmem S1104x1 .f32) (harg13 : arg13.IsWhole) (arg14 : Memref sig .tc .vmem S1104x1 .f32) (harg14 : arg14.IsWhole) (arg15 : Memref sig .tc .vmem S1104x1 .f32) (harg15 : arg15.IsWhole) (arg16 : Memref sig .tc .vmem S1104x1 .f32) (harg16 : arg16.IsWhole)
  (v12 : FVec F S8000x128 .bf16) (v21 : FVec F S1x8000 .f32) (v23 : FVec F S8000x128 .bf16) (v32 : FVec F S1x8000 .f32) (v34 : IVec S1x8000 32) (v36 : IVec S1x8000 32) (v39 : Elt F .i32) (v42 : Elt F .i32) (v45 : Elt F .i32) (v67 : Elt F .i32) (k0_hw1 : k0_chk1 v39 v42 v45 v67)

/-- The trip's induction value. -/
abbrev ivAt (k : Fin (k0_t1_loop v39 v42 v45 v67).trips) : BitVec 32 := Scf.iv (k0_t1_loop v39 v42 v45 v67).lb (k0_t1_loop v39 v42 v45 v67).st k

/-- Part 0's rows of the maxima and sums in trip `k`. -/
abbrev rowM0 (k : Fin (k0_t1_loop v39 v42 v45 v67).trips) (h : k0_cond2 v39 v42 v45 v67 k = 1#1) : Rect S1104x1 :=
  Rect.unit (s := S1104x1) (k0_off3 v39 v42 v45 v67 k) S40x1.size (k0_off3_inb v39 v42 v45 v67 k0_hw1 k h)
/-- Part 0's rows of the accumulator in trip `k`. -/
abbrev rowA0 (k : Fin (k0_t1_loop v39 v42 v45 v67).trips) (h : k0_cond2 v39 v42 v45 v67 k = 1#1) : Rect S1104x128 :=
  Rect.unit (s := S1104x128) (k0_off4 v39 v42 v45 v67 k) S40x128.size (k0_off4_inb v39 v42 v45 v67 k0_hw1 k h)

/-- Part 0's running maxima after trip `k`, from those before it. -/
def nextM0 (k : Fin (k0_t1_loop v39 v42 v45 v67).trips) (M : Buf (Elt F) (arg13.view.loc (c : Thread nD τ))) : Buf (Elt F) (arg13.view.loc (c : Thread nD τ)) :=
  if h : k0_cond2 v39 v42 v45 v67 k = 1#1 then
    arg13.view.writes (Elt F) M [⟨rowM0 v39 v42 v45 v67 k0_hw1 k h,
      k0_pay13 v21 v34 v39 (ivAt v39 v42 v45 v67 k) (arg13.view.readAt (Elt F) (rowM0 v39 v42 v45 v67 k0_hw1 k h).toLoadRect M)⟩]
  else M
/-- Part 0's running sums after trip `k`. -/
def nextL0 (k : Fin (k0_t1_loop v39 v42 v45 v67).trips) (M : Buf (Elt F) (arg13.view.loc (c : Thread nD τ))) (L : Buf (Elt F) (arg15.view.loc (c : Thread nD τ))) : Buf (Elt F) (arg15.view.loc (c : Thread nD τ)) :=
  if h : k0_cond2 v39 v42 v45 v67 k = 1#1 then
    arg15.view.writes (Elt F) L [⟨rowM0 v39 v42 v45 v67 k0_hw1 k h,
      k0_pay1 (k0_pay12 v21 v34 v39 (ivAt v39 v42 v45 v67 k) (arg13.view.readAt (Elt F) (rowM0 v39 v42 v45 v67 k0_hw1 k h).toLoadRect M))
        (k0_pay15 v21 v34 v39 (ivAt v39 v42 v45 v67 k) (arg13.view.readAt (Elt F) (rowM0 v39 v42 v45 v67 k0_hw1 k h).toLoadRect M))
        (arg15.view.readAt (Elt F) (rowM0 v39 v42 v45 v67 k0_hw1 k h).toLoadRect L)⟩]
  else L
/-- Part 0's accumulator after trip `k`. -/
def nextA0 (k : Fin (k0_t1_loop v39 v42 v45 v67).trips) (M : Buf (Elt F) (arg13.view.loc (c : Thread nD τ))) (A : Buf (Elt F) (arg11.view.loc (c : Thread nD τ))) : Buf (Elt F) (arg11.view.loc (c : Thread nD τ)) :=
  if h : k0_cond2 v39 v42 v45 v67 k = 1#1 then
    arg11.view.writes (Elt F) A [⟨rowA0 v39 v42 v45 v67 k0_hw1 k h,
      k0_pay2 v12 (k0_pay12 v21 v34 v39 (ivAt v39 v42 v45 v67 k) (arg13.view.readAt (Elt F) (rowM0 v39 v42 v45 v67 k0_hw1 k h).toLoadRect M))
        (k0_pay14 v21 v34 v39 (ivAt v39 v42 v45 v67 k) (arg13.view.readAt (Elt F) (rowM0 v39 v42 v45 v67 k0_hw1 k h).toLoadRect M))
        (arg11.view.readAt (Elt F) (rowA0 v39 v42 v45 v67 k0_hw1 k h).toLoadRect A)⟩]
  else A

/-- Part 1's rows of the maxima and sums in trip `k`. -/
abbrev rowM1 (k : Fin (k0_t1_loop v39 v42 v45 v67).trips) (h : k0_cond3 v39 v42 v45 v67 k = 1#1) : Rect S1104x1 :=
  Rect.unit (s := S1104x1) (k0_off5 v39 v42 v45 v67 k) S40x1.size (k0_off5_inb v39 v42 v45 v67 k0_hw1 k h)
/-- Part 1's rows of the accumulator in trip `k`. -/
abbrev rowA1 (k : Fin (k0_t1_loop v39 v42 v45 v67).trips) (h : k0_cond3 v39 v42 v45 v67 k = 1#1) : Rect S1104x128 :=
  Rect.unit (s := S1104x128) (k0_off6 v39 v42 v45 v67 k) S40x128.size (k0_off6_inb v39 v42 v45 v67 k0_hw1 k h)

/-- Part 1's running maxima after trip `k`, from those before it. -/
def nextM1 (k : Fin (k0_t1_loop v39 v42 v45 v67).trips) (M : Buf (Elt F) (arg14.view.loc (c : Thread nD τ))) : Buf (Elt F) (arg14.view.loc (c : Thread nD τ)) :=
  if h : k0_cond3 v39 v42 v45 v67 k = 1#1 then
    arg14.view.writes (Elt F) M [⟨rowM1 v39 v42 v45 v67 k0_hw1 k h,
      k0_pay19 v32 v36 v42 (ivAt v39 v42 v45 v67 k) (arg14.view.readAt (Elt F) (rowM1 v39 v42 v45 v67 k0_hw1 k h).toLoadRect M)⟩]
  else M
/-- Part 1's running sums after trip `k`. -/
def nextL1 (k : Fin (k0_t1_loop v39 v42 v45 v67).trips) (M : Buf (Elt F) (arg14.view.loc (c : Thread nD τ))) (L : Buf (Elt F) (arg16.view.loc (c : Thread nD τ))) : Buf (Elt F) (arg16.view.loc (c : Thread nD τ)) :=
  if h : k0_cond3 v39 v42 v45 v67 k = 1#1 then
    arg16.view.writes (Elt F) L [⟨rowM1 v39 v42 v45 v67 k0_hw1 k h,
      k0_pay3 (k0_pay18 v32 v36 v42 (ivAt v39 v42 v45 v67 k) (arg14.view.readAt (Elt F) (rowM1 v39 v42 v45 v67 k0_hw1 k h).toLoadRect M))
        (k0_pay21 v32 v36 v42 (ivAt v39 v42 v45 v67 k) (arg14.view.readAt (Elt F) (rowM1 v39 v42 v45 v67 k0_hw1 k h).toLoadRect M))
        (arg16.view.readAt (Elt F) (rowM1 v39 v42 v45 v67 k0_hw1 k h).toLoadRect L)⟩]
  else L
/-- Part 1's accumulator after trip `k`. -/
def nextA1 (k : Fin (k0_t1_loop v39 v42 v45 v67).trips) (M : Buf (Elt F) (arg14.view.loc (c : Thread nD τ))) (A : Buf (Elt F) (arg12.view.loc (c : Thread nD τ))) : Buf (Elt F) (arg12.view.loc (c : Thread nD τ)) :=
  if h : k0_cond3 v39 v42 v45 v67 k = 1#1 then
    arg12.view.writes (Elt F) A [⟨rowA1 v39 v42 v45 v67 k0_hw1 k h,
      k0_pay4 v23 (k0_pay18 v32 v36 v42 (ivAt v39 v42 v45 v67 k) (arg14.view.readAt (Elt F) (rowM1 v39 v42 v45 v67 k0_hw1 k h).toLoadRect M))
        (k0_pay20 v32 v36 v42 (ivAt v39 v42 v45 v67 k) (arg14.view.readAt (Elt F) (rowM1 v39 v42 v45 v67 k0_hw1 k h).toLoadRect M))
        (arg12.view.readAt (Elt F) (rowA1 v39 v42 v45 v67 k0_hw1 k h).toLoadRect A)⟩]
  else A

variable (G11 : Buf (Elt F) (arg11.view.loc (c : Thread nD τ))) (G12 : Buf (Elt F) (arg12.view.loc (c : Thread nD τ)))
  (G13 : Buf (Elt F) (arg13.view.loc (c : Thread nD τ))) (G14 : Buf (Elt F) (arg14.view.loc (c : Thread nD τ)))
  (G15 : Buf (Elt F) (arg15.view.loc (c : Thread nD τ))) (G16 : Buf (Elt F) (arg16.view.loc (c : Thread nD τ)))

/-- The six running buffers, held at the given contents. -/
abbrev own6 : sProp 𝕄 :=
  iprop(own c arg11 G11 ∗ own c arg12 G12 ∗ own c arg13 G13 ∗ own c arg14 G14 ∗ own c arg15 G15 ∗ own c arg16 G16)

set_option maxHeartbeats 2000000 in
/-- ONE TRIP: each part whose window is there replaces its rows by the payloads over the rows read. -/
theorem trip (k : Fin (k0_t1_loop v39 v42 v45 v67).trips) :
    own6 c arg11 arg12 arg13 arg14 arg15 arg16 G11 G12 G13 G14 G15 G16
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v12 v21 v23 v32 v34 v36 v39 v42 v45 v67 k0_hw1 k ()) (fun _ => own6 c arg11 arg12 arg13 arg14 arg15 arg16
          (nextA0 c arg11 arg13 v12 v21 v34 v39 v42 v45 v67 k0_hw1 k G13 G11) (nextA1 c arg12 arg14 v23 v32 v36 v39 v42 v45 v67 k0_hw1 k G14 G12)
          (nextM0 c arg13 v21 v34 v39 v42 v45 v67 k0_hw1 k G13) (nextM1 c arg14 v32 v36 v39 v42 v45 v67 k0_hw1 k G14)
          (nextL0 c arg13 arg15 v21 v34 v39 v42 v45 v67 k0_hw1 k G13 G15) (nextL1 c arg14 arg16 v32 v36 v39 v42 v45 v67 k0_hw1 k G14 G16)) := by
  unfold nextA0 nextA1 nextM0 nextM1 nextL0 nextL1 own6
  by_cases h2 : k0_cond2 v39 v42 v45 v67 k = 1#1 <;> by_cases h3 : k0_cond3 v39 v42 v45 v67 k = 1#1
  · simp only [dif_pos h2, dif_pos h3]
    unfold k0_t1_body
    iintro ⟨H11, H12, H13, H14, H15, H16⟩
    sl_exec
    sl_step
    isplitl [H11]; · iexact H11
    isplitl [H12]; · iexact H12
    isplitl [H13]; · iexact H13
    isplitl [H14]; · iexact H14
    isplitl [H15]; · iexact H15
    iexact H16
  · simp only [dif_pos h2, dif_neg h3]
    unfold k0_t1_body
    iintro ⟨H11, H12, H13, H14, H15, H16⟩
    sl_exec
    sl_step
    isplitl [H11]; · iexact H11
    isplitl [H12]; · iexact H12
    isplitl [H13]; · iexact H13
    isplitl [H14]; · iexact H14
    isplitl [H15]; · iexact H15
    iexact H16
  · simp only [dif_neg h2, dif_pos h3]
    unfold k0_t1_body
    iintro ⟨H11, H12, H13, H14, H15, H16⟩
    sl_exec
    sl_step
    isplitl [H11]; · iexact H11
    isplitl [H12]; · iexact H12
    isplitl [H13]; · iexact H13
    isplitl [H14]; · iexact H14
    isplitl [H15]; · iexact H15
    iexact H16
  · simp only [dif_neg h2, dif_neg h3]
    unfold k0_t1_body
    iintro ⟨H11, H12, H13, H14, H15, H16⟩
    sl_exec
    sl_step
    isplitl [H11]; · iexact H11
    isplitl [H12]; · iexact H12
    isplitl [H13]; · iexact H13
    isplitl [H14]; · iexact H14
    isplitl [H15]; · iexact H15
    iexact H16

/-! ## The loop -/

/-- Part 0's running maxima before trip `k`. -/
def accM0 (M : Buf (Elt F) (arg13.view.loc (c : Thread nD τ))) : ℕ → Buf (Elt F) (arg13.view.loc (c : Thread nD τ))
  | 0 => M
  | k + 1 => if h : k < (k0_t1_loop v39 v42 v45 v67).trips then nextM0 c arg13 v21 v34 v39 v42 v45 v67 k0_hw1 ⟨k, h⟩ (accM0 M k) else accM0 M k
/-- Part 0's running sums before trip `k`. -/
def accL0 (M : Buf (Elt F) (arg13.view.loc (c : Thread nD τ))) (L : Buf (Elt F) (arg15.view.loc (c : Thread nD τ))) : ℕ → Buf (Elt F) (arg15.view.loc (c : Thread nD τ))
  | 0 => L
  | k + 1 => if h : k < (k0_t1_loop v39 v42 v45 v67).trips then nextL0 c arg13 arg15 v21 v34 v39 v42 v45 v67 k0_hw1 ⟨k, h⟩ (accM0 c arg13 v21 v34 v39 v42 v45 v67 k0_hw1 M k) (accL0 M L k) else accL0 M L k
/-- Part 0's accumulator before trip `k`. -/
def accA0 (M : Buf (Elt F) (arg13.view.loc (c : Thread nD τ))) (A : Buf (Elt F) (arg11.view.loc (c : Thread nD τ))) : ℕ → Buf (Elt F) (arg11.view.loc (c : Thread nD τ))
  | 0 => A
  | k + 1 => if h : k < (k0_t1_loop v39 v42 v45 v67).trips then nextA0 c arg11 arg13 v12 v21 v34 v39 v42 v45 v67 k0_hw1 ⟨k, h⟩ (accM0 c arg13 v21 v34 v39 v42 v45 v67 k0_hw1 M k) (accA0 M A k) else accA0 M A k

/-- Part 1's running maxima before trip `k`. -/
def accM1 (M : Buf (Elt F) (arg14.view.loc (c : Thread nD τ))) : ℕ → Buf (Elt F) (arg14.view.loc (c : Thread nD τ))
  | 0 => M
  | k + 1 => if h : k < (k0_t1_loop v39 v42 v45 v67).trips then nextM1 c arg14 v32 v36 v39 v42 v45 v67 k0_hw1 ⟨k, h⟩ (accM1 M k) else accM1 M k
/-- Part 1's running sums before trip `k`. -/
def accL1 (M : Buf (Elt F) (arg14.view.loc (c : Thread nD τ))) (L : Buf (Elt F) (arg16.view.loc (c : Thread nD τ))) : ℕ → Buf (Elt F) (arg16.view.loc (c : Thread nD τ))
  | 0 => L
  | k + 1 => if h : k < (k0_t1_loop v39 v42 v45 v67).trips then nextL1 c arg14 arg16 v32 v36 v39 v42 v45 v67 k0_hw1 ⟨k, h⟩ (accM1 c arg14 v32 v36 v39 v42 v45 v67 k0_hw1 M k) (accL1 M L k) else accL1 M L k
/-- Part 1's accumulator before trip `k`. -/
def accA1 (M : Buf (Elt F) (arg14.view.loc (c : Thread nD τ))) (A : Buf (Elt F) (arg12.view.loc (c : Thread nD τ))) : ℕ → Buf (Elt F) (arg12.view.loc (c : Thread nD τ))
  | 0 => A
  | k + 1 => if h : k < (k0_t1_loop v39 v42 v45 v67).trips then nextA1 c arg12 arg14 v23 v32 v36 v39 v42 v45 v67 k0_hw1 ⟨k, h⟩ (accM1 c arg14 v32 v36 v39 v42 v45 v67 k0_hw1 M k) (accA1 M A k) else accA1 M A k

/-- The six running buffers before trip `k`. -/
abbrev own6At (k : ℕ) : sProp 𝕄 :=
  own6 c arg11 arg12 arg13 arg14 arg15 arg16
    (accA0 c arg11 arg13 v12 v21 v34 v39 v42 v45 v67 k0_hw1 G13 G11 k) (accA1 c arg12 arg14 v23 v32 v36 v39 v42 v45 v67 k0_hw1 G14 G12 k)
    (accM0 c arg13 v21 v34 v39 v42 v45 v67 k0_hw1 G13 k) (accM1 c arg14 v32 v36 v39 v42 v45 v67 k0_hw1 G14 k)
    (accL0 c arg13 arg15 v21 v34 v39 v42 v45 v67 k0_hw1 G13 G15 k) (accL1 c arg14 arg16 v32 v36 v39 v42 v45 v67 k0_hw1 G14 G16 k)

set_option warn.classDefReducibility false in
/-- The loop's invariant: before trip `k` the buffers hold the first `k` trips' results. -/
@[sl_loop] def loopInv1 : LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v12 v21 v23 v32 v34 v36 v39 v42 v45 v67 k0_hw1 where
  inv k _ := own6At c arg11 arg12 arg13 arg14 arg15 arg16 v12 v21 v23 v32 v34 v36 v39 v42 v45 v67 k0_hw1 G11 G12 G13 G14 G15 G16 k
  step k _ := by
    unfold own6At
    simp only [accA0, accA1, accM0, accM1, accL0, accL1, dif_pos k.isLt]
    exact trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v12 v21 v23 v32 v34 v36 v39 v42 v45 v67 k0_hw1 _ _ _ _ _ _ k

end Trip

end Cert.KernelIdeal.Hand

end
-- ==== Proof.Step.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Body
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords) (arg1 : Memref sig .tc .smem S40x2 .i32) (harg1 : arg1.IsWhole) (arg2 : Memref sig .tc .smem S1 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S8000x128 .f32) (harg5 : arg5.IsWhole) (arg6 : Memref sig .tc .vmem S8000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1104x128 .f32) (harg11 : arg11.IsWhole) (arg12 : Memref sig .tc .vmem S1104x128 .f32) (harg12 : arg12.IsWhole) (arg13 : Memref sig .tc .vmem S1104x1 .f32) (harg13 : arg13.IsWhole) (arg14 : Memref sig .tc .vmem S1104x1 .f32) (harg14 : arg14.IsWhole) (arg15 : Memref sig .tc .vmem S1104x1 .f32) (harg15 : arg15.IsWhole) (arg16 : Memref sig .tc .vmem S1104x1 .f32) (harg16 : arg16.IsWhole)

variable (G1 : Buf (Elt F) (arg1.view.loc (c : Thread nD τ))) (G2 : Buf (Elt F) (arg2.view.loc (c : Thread nD τ)))
 (G3 : Buf (Elt F) (arg3.view.loc (c : Thread nD τ))) (G4 : Buf (Elt F) (arg4.view.loc (c : Thread nD τ)))
 (G5 : Buf (Elt F) (arg5.view.loc (c : Thread nD τ))) (G6 : Buf (Elt F) (arg6.view.loc (c : Thread nD τ)))
 (G7 : Buf (Elt F) (arg7.view.loc (c : Thread nD τ))) (G8 : Buf (Elt F) (arg8.view.loc (c : Thread nD τ)))
 (G9 : Buf (Elt F) (arg9.view.loc (c : Thread nD τ))) (G10 : Buf (Elt F) (arg10.view.loc (c : Thread nD τ)))
 (G11 : Buf (Elt F) (arg11.view.loc (c : Thread nD τ))) (G12 : Buf (Elt F) (arg12.view.loc (c : Thread nD τ)))
  (G13 : Buf (Elt F) (arg13.view.loc (c : Thread nD τ))) (G14 : Buf (Elt F) (arg14.view.loc (c : Thread nD τ)))
  (G15 : Buf (Elt F) (arg15.view.loc (c : Thread nD τ))) (G16 : Buf (Elt F) (arg16.view.loc (c : Thread nD τ)))

/-- The ten windows' buffers, held at the given contents. -/
abbrev own10 : sProp 𝕄 :=
  iprop(own c arg1 G1 ∗ own c arg2 G2 ∗ own c arg3 G3 ∗ own c arg4 G4 ∗ own c arg5 G5 ∗ own c arg6 G6 ∗ own c arg7 G7 ∗ own c arg8 G8 ∗ own c arg9 G9 ∗ own c arg10 G10)

/-- The first id of this step's block of part 0 (down to a multiple of eight), as read. -/
abbrev wS0 : BitVec 32 := arg1.view.readAt (Elt F) (Rect.unit (s := S40x2) (k0_off1 i 0#32) S1x1.size (k0_off1_inb i 0)).toLoadRect G1 (Shape.Idx.first (by show 0 < S1x1.numel; decide))
/-- Part 1's first word at a point. -/
abbrev wS1 : BitVec 32 := arg1.view.readAt (Elt F) (Rect.unit (s := S40x2) (k0_off1 i 20#32) S1x1.size (k0_off1_inb i 1)).toLoadRect G1 (Shape.Idx.first (by show 0 < S1x1.numel; decide))
/-- Part 0's last word at a point. -/
abbrev wL0 : BitVec 32 := arg1.view.readAt (Elt F) (Rect.unit (s := S40x2) (k0_off2 i 0#32) S1x1.size (k0_off2_inb i 0)).toLoadRect G1 (Shape.Idx.first (by show 0 < S1x1.numel; decide))
/-- Part 1's last word at a point. -/
abbrev wL1 : BitVec 32 := arg1.view.readAt (Elt F) (Rect.unit (s := S40x2) (k0_off2 i 20#32) S1x1.size (k0_off2_inb i 1)).toLoadRect G1 (Shape.Idx.first (by show 0 < S1x1.numel; decide))

/-- The test for the first grid point. -/
abbrev isFirst : BitVec 1 := Scalar.cmpi .ne (Scalar.extui (Scalar.cmpi .eq (BitVec.ofNat 32 (i 0).val) 0#32) : BitVec 32) 0#32

/-- Part 0's features in the narrow format, as the body reads them. -/
abbrev dX0 : FVec F S8000x128 .bf16 := k0_pay43 (arg5.view.readAt (Elt F) (Rect.unit (s := S8000x128) ![0, 0] S8000x128.size inb_S8000x128_S8000x128_0_0).toLoadRect G5)
/-- Part 1's. -/
abbrev dX1 : FVec F S8000x128 .bf16 := k0_pay45 (arg6.view.readAt (Elt F) (Rect.unit (s := S8000x128) ![0, 0] S8000x128.size inb_S8000x128_S8000x128_0_0).toLoadRect G6)
/-- Part 0's gate scores. -/
abbrev dG0 : FVec F S1x8000 .f32 := k0_pay44 (arg7.view.readAt (Elt F) (Rect.unit (s := S128x128) ![0, 0] S128x128.size inb_S128x128_S128x128_0_0).toLoadRect G7)
  (arg9.view.readAt (Elt F) (Rect.unit (s := S1x128) ![0, 0] S1x128.size inb_S1x128_S1x128_0_0).toLoadRect G9)
  (arg8.view.readAt (Elt F) (Rect.unit (s := S1x128) ![0, 0] S1x128.size inb_S1x128_S1x128_0_0).toLoadRect G8)
  (arg2.view.readAt (Elt F) (Rect.unit (s := S1) ![0] S1.size inb_S1_S1_0).toLoadRect G2 (Shape.Idx.first (by decide)))
  (arg5.view.readAt (Elt F) (Rect.unit (s := S8000x128) ![0, 0] S8000x128.size inb_S8000x128_S8000x128_0_0).toLoadRect G5)
/-- Part 1's. -/
abbrev dG1 : FVec F S1x8000 .f32 := k0_pay46 (arg7.view.readAt (Elt F) (Rect.unit (s := S128x128) ![0, 0] S128x128.size inb_S128x128_S128x128_0_0).toLoadRect G7)
  (arg9.view.readAt (Elt F) (Rect.unit (s := S1x128) ![0, 0] S1x128.size inb_S1x128_S1x128_0_0).toLoadRect G9)
  (arg8.view.readAt (Elt F) (Rect.unit (s := S1x128) ![0, 0] S1x128.size inb_S1x128_S1x128_0_0).toLoadRect G8)
  (arg2.view.readAt (Elt F) (Rect.unit (s := S1) ![0] S1.size inb_S1_S1_0).toLoadRect G2 (Shape.Idx.first (by decide)))
  (arg6.view.readAt (Elt F) (Rect.unit (s := S8000x128) ![0, 0] S8000x128.size inb_S8000x128_S8000x128_0_0).toLoadRect G6)
/-- Part 0's segment ids. -/
abbrev dI0 : IVec S1x8000 32 := k0_pay47 (arg3.view.readAt (Elt F) (Rect.unit (s := S1x1x8000) ![0, 0, 0] S1x1x8000.size inb_S1x1x8000_S1x1x8000_0_0_0).toLoadRect G3)
/-- Part 1's. -/
abbrev dI1 : IVec S1x8000 32 := k0_pay48 (arg4.view.readAt (Elt F) (Rect.unit (s := S1x1x8000) ![0, 0, 0] S1x1x8000.size inb_S1x1x8000_S1x1x8000_0_0_0).toLoadRect G4)

/-- A column buffer filled by the zeros `p`. -/
abbrev zeroM (a : Memref sig .tc .vmem S1104x1 .f32) (p : FVec F S1104x1 .f32) : Buf (Elt F) (a.view.loc (c : Thread nD τ)) :=
  (a.view.slice (Rect.unit (s := S1104x1) ![0, 0] S1104x1.size inb_S1104x1_S1104x1_0_0)).write (Elt F) (a.view.writes (Elt F) a.view.junk []) p Finset.univ
/-- An accumulator filled by the zeros `p`. -/
abbrev zeroA (a : Memref sig .tc .vmem S1104x128 .f32) (p : FVec F S1104x128 .f32) : Buf (Elt F) (a.view.loc (c : Thread nD τ)) :=
  (a.view.slice (Rect.unit (s := S1104x128) ![0, 0] S1104x128.size inb_S1104x128_S1104x128_0_0)).write (Elt F) (a.view.writes (Elt F) a.view.junk []) p Finset.univ

/-- The output block a final step stores, from the running buffers after it. -/
abbrev finOut : Buf (Elt F) (arg10.view.loc (c : Thread nD τ)) :=
  arg10.view.writes (Elt F) G10 [⟨Rect.unit (s := S1024x128) ![0, 0] S1024x128.size inb_S1024x128_S1024x128_0_0,
    k0_pay9 (arg13.view.readAt (Elt F) (Rect.unit (s := S1104x1) ![0, 0] S1024x1.size inb_S1104x1_S1024x1_0_0).toLoadRect G13)
      (arg14.view.readAt (Elt F) (Rect.unit (s := S1104x1) ![0, 0] S1024x1.size inb_S1104x1_S1024x1_0_0).toLoadRect G14)
      (arg11.view.readAt (Elt F) (Rect.unit (s := S1104x128) ![0, 0] S1024x128.size inb_S1104x128_S1024x128_0_0).toLoadRect G11)
      (arg15.view.readAt (Elt F) (Rect.unit (s := S1104x1) ![0, 0] S1024x1.size inb_S1104x1_S1024x1_0_0).toLoadRect G15)
      (arg12.view.readAt (Elt F) (Rect.unit (s := S1104x128) ![0, 0] S1024x128.size inb_S1104x128_S1024x128_0_0).toLoadRect G12)
      (arg16.view.readAt (Elt F) (Rect.unit (s := S1104x1) ![0, 0] S1024x1.size inb_S1104x1_S1024x1_0_0).toLoadRect G16)⟩]

variable (hchk : k0_chk1 (wS0 c i arg1 G1) (wS1 c i arg1 G1) (wL0 c i arg1 G1) (wL1 c i arg1 G1))

/-- The number of trips of this step. -/
abbrev nT : ℕ := (k0_t1_loop (wS0 c i arg1 G1) (wS1 c i arg1 G1) (wL0 c i arg1 G1) (wL1 c i arg1 G1)).trips

/-- Part 0's maxima after this step, from those before it. -/
abbrev endM0 (G13 : Buf (Elt F) (arg13.view.loc (c : Thread nD τ))) := accM0 c arg13 (dG0 c arg2 arg5 arg7 arg8 arg9 G2 G5 G7 G8 G9) (dI0 c arg3 G3) _ _ _ _ hchk G13 (nT c i arg1 G1)
/-- Part 0's sums after its loop. -/
abbrev endL0 (G13 : Buf (Elt F) (arg13.view.loc (c : Thread nD τ))) (G15 : Buf (Elt F) (arg15.view.loc (c : Thread nD τ))) := accL0 c arg13 arg15 (dG0 c arg2 arg5 arg7 arg8 arg9 G2 G5 G7 G8 G9) (dI0 c arg3 G3) _ _ _ _ hchk G13 G15 (nT c i arg1 G1)
/-- Part 0's accumulator after its loop. -/
abbrev endA0 (G13 : Buf (Elt F) (arg13.view.loc (c : Thread nD τ))) (G11 : Buf (Elt F) (arg11.view.loc (c : Thread nD τ))) := accA0 c arg11 arg13 (dX0 c arg5 G5) (dG0 c arg2 arg5 arg7 arg8 arg9 G2 G5 G7 G8 G9) (dI0 c arg3 G3) _ _ _ _ hchk G13 G11 (nT c i arg1 G1)

/-- Part 1's maxima after this step, from those before it. -/
abbrev endM1 (G14 : Buf (Elt F) (arg14.view.loc (c : Thread nD τ))) := accM1 c arg14 (dG1 c arg2 arg6 arg7 arg8 arg9 G2 G6 G7 G8 G9) (dI1 c arg4 G4) _ _ _ _ hchk G14 (nT c i arg1 G1)
/-- Part 1's sums after its loop. -/
abbrev endL1 (G14 : Buf (Elt F) (arg14.view.loc (c : Thread nD τ))) (G16 : Buf (Elt F) (arg16.view.loc (c : Thread nD τ))) := accL1 c arg14 arg16 (dG1 c arg2 arg6 arg7 arg8 arg9 G2 G6 G7 G8 G9) (dI1 c arg4 G4) _ _ _ _ hchk G14 G16 (nT c i arg1 G1)
/-- Part 1's accumulator after its loop. -/
abbrev endA1 (G14 : Buf (Elt F) (arg14.view.loc (c : Thread nD τ))) (G12 : Buf (Elt F) (arg12.view.loc (c : Thread nD τ))) := accA1 c arg12 arg14 (dX1 c arg6 G6) (dG1 c arg2 arg6 arg7 arg8 arg9 G2 G6 G7 G8 G9) (dI1 c arg4 G4) _ _ _ _ hchk G14 G12 (nT c i arg1 G1)

/-- The six buffers after this step. -/
abbrev own6End : sProp 𝕄 :=
  own6 c arg11 arg12 arg13 arg14 arg15 arg16
    (endA0 c i arg1 arg2 arg3 arg5 arg7 arg8 arg9 arg11 arg13 G1 G2 G3 G5 G7 G8 G9 hchk G13 G11)
    (endA1 c i arg1 arg2 arg4 arg6 arg7 arg8 arg9 arg12 arg14 G1 G2 G4 G6 G7 G8 G9 hchk G14 G12)
    (endM0 c i arg1 arg2 arg3 arg5 arg7 arg8 arg9 arg13 G1 G2 G3 G5 G7 G8 G9 hchk G13)
    (endM1 c i arg1 arg2 arg4 arg6 arg7 arg8 arg9 arg14 G1 G2 G4 G6 G7 G8 G9 hchk G14)
    (endL0 c i arg1 arg2 arg3 arg5 arg7 arg8 arg9 arg13 arg15 G1 G2 G3 G5 G7 G8 G9 hchk G13 G15)
    (endL1 c i arg1 arg2 arg4 arg6 arg7 arg8 arg9 arg14 arg16 G1 G2 G4 G6 G7 G8 G9 hchk G14 G16)

set_option maxHeartbeats 2000000 in
/-- The first step: the buffers zeroed, then the trips. -/
theorem bodyFirst (h0 : isFirst i = 1#1) (h6 : ¬ k0_cond6 i = 1#1) :
    iprop(own10 c arg1 arg2 arg3 arg4 arg5 arg6 arg7 arg8 arg9 arg10 G1 G2 G3 G4 G5 G6 G7 G8 G9 G10 ∗ own6 c arg11 arg12 arg13 arg14 arg15 arg16 G11 G12 G13 G14 G15 G16)
      ⊢ wp frame (wpE (defs₀ (F := F)) Variants.none (c : Thread nD τ) none) Set.univ
        (cc0__pool_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(own10 c arg1 arg2 arg3 arg4 arg5 arg6 arg7 arg8 arg9 arg10 G1 G2 G3 G4 G5 G6 G7 G8 G9 G10 ∗ own6End c i arg1 arg2 arg3 arg4 arg5 arg6 arg7 arg8 arg9 arg11 arg12 arg13 arg14 arg15 arg16 G1 G2 G3 G4 G5 G6 G7 G8 G9 (zeroA c arg11 k0_pay34) (zeroA c arg12 k0_pay37) (zeroM c arg13 k0_pay35) (zeroM c arg14 k0_pay38) (zeroM c arg15 k0_pay36) (zeroM c arg16 k0_pay39) hchk)) := by
  iintro ⟨⟨H1, H2, H3, H4, H5, H6, H7, H8, H9, H10⟩, H11, H12, H13, H14, H15, H16⟩
  sl_exec
  have hchk' : k0_chk1 (bodyFirst.sl.r_6 c i arg1 G1) (bodyFirst.sl.r_7 c i arg1 G1) (bodyFirst.sl.r_8 c i arg1 G1) (bodyFirst.sl.r_9 c i arg1 G1) := hchk
  sl_exec
  sl_step
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [H14]; · iexact H14
  isplitl [H15]; · iexact H15
  iexact H16

set_option maxHeartbeats 2000000 in
/-- A step between: the trips. -/
theorem bodyMid (h0 : ¬ isFirst i = 1#1) (h6 : ¬ k0_cond6 i = 1#1) :
    iprop(own10 c arg1 arg2 arg3 arg4 arg5 arg6 arg7 arg8 arg9 arg10 G1 G2 G3 G4 G5 G6 G7 G8 G9 G10 ∗ own6 c arg11 arg12 arg13 arg14 arg15 arg16 G11 G12 G13 G14 G15 G16)
      ⊢ wp frame (wpE (defs₀ (F := F)) Variants.none (c : Thread nD τ) none) Set.univ
        (cc0__pool_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(own10 c arg1 arg2 arg3 arg4 arg5 arg6 arg7 arg8 arg9 arg10 G1 G2 G3 G4 G5 G6 G7 G8 G9 G10 ∗ own6End c i arg1 arg2 arg3 arg4 arg5 arg6 arg7 arg8 arg9 arg11 arg12 arg13 arg14 arg15 arg16 G1 G2 G3 G4 G5 G6 G7 G8 G9 G11 G12 G13 G14 G15 G16 hchk)) := by
  iintro ⟨⟨H1, H2, H3, H4, H5, H6, H7, H8, H9, H10⟩, H11, H12, H13, H14, H15, H16⟩
  sl_exec
  have hchk' : k0_chk1 (bodyMid.sl.r_6 c i arg1 G1) (bodyMid.sl.r_7 c i arg1 G1) (bodyMid.sl.r_8 c i arg1 G1) (bodyMid.sl.r_9 c i arg1 G1) := hchk
  sl_exec
  sl_step
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [H14]; · iexact H14
  isplitl [H15]; · iexact H15
  iexact H16

set_option maxHeartbeats 2000000 in
/-- The last step: the trips, then the output block stored. -/
theorem bodyLast (h0 : ¬ isFirst i = 1#1) (h6 : k0_cond6 i = 1#1) :
    iprop(own10 c arg1 arg2 arg3 arg4 arg5 arg6 arg7 arg8 arg9 arg10 G1 G2 G3 G4 G5 G6 G7 G8 G9 G10 ∗ own6 c arg11 arg12 arg13 arg14 arg15 arg16 G11 G12 G13 G14 G15 G16)
      ⊢ wp frame (wpE (defs₀ (F := F)) Variants.none (c : Thread nD τ) none) Set.univ
        (cc0__pool_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(own10 c arg1 arg2 arg3 arg4 arg5 arg6 arg7 arg8 arg9 arg10 G1 G2 G3 G4 G5 G6 G7 G8 G9 (finOut c arg10 arg11 arg12 arg13 arg14 arg15 arg16 G10
            (endA0 c i arg1 arg2 arg3 arg5 arg7 arg8 arg9 arg11 arg13 G1 G2 G3 G5 G7 G8 G9 hchk G13 G11)
            (endA1 c i arg1 arg2 arg4 arg6 arg7 arg8 arg9 arg12 arg14 G1 G2 G4 G6 G7 G8 G9 hchk G14 G12)
            (endM0 c i arg1 arg2 arg3 arg5 arg7 arg8 arg9 arg13 G1 G2 G3 G5 G7 G8 G9 hchk G13)
            (endM1 c i arg1 arg2 arg4 arg6 arg7 arg8 arg9 arg14 G1 G2 G4 G6 G7 G8 G9 hchk G14)
            (endL0 c i arg1 arg2 arg3 arg5 arg7 arg8 arg9 arg13 arg15 G1 G2 G3 G5 G7 G8 G9 hchk G13 G15)
            (endL1 c i arg1 arg2 arg4 arg6 arg7 arg8 arg9 arg14 arg16 G1 G2 G4 G6 G7 G8 G9 hchk G14 G16)) ∗ own6End c i arg1 arg2 arg3 arg4 arg5 arg6 arg7 arg8 arg9 arg11 arg12 arg13 arg14 arg15 arg16 G1 G2 G3 G4 G5 G6 G7 G8 G9 G11 G12 G13 G14 G15 G16 hchk)) := by
  iintro ⟨⟨H1, H2, H3, H4, H5, H6, H7, H8, H9, H10⟩, H11, H12, H13, H14, H15, H16⟩
  sl_exec
  have hchk' : k0_chk1 (bodyLast.sl.r_6 c i arg1 G1) (bodyLast.sl.r_7 c i arg1 G1) (bodyLast.sl.r_8 c i arg1 G1) (bodyLast.sl.r_9 c i arg1 G1) := hchk
  sl_exec
  sl_step
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [H14]; · iexact H14
  isplitl [H15]; · iexact H15
  iexact H16

end Body

end Cert.KernelIdeal.Hand

end
-- ==== Proof.Obl.lean ====
module

public import proofs.«01_k».proof.Proof.Step
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The running buffers point by point -/

/-- Part 0's accumulator. -/
abbrev sA0 : Memref sig .tc .vmem S1104x128 .f32 := Memref.whole cc0_scratch0
/-- Part 1's accumulator. -/
abbrev sA1 : Memref sig .tc .vmem S1104x128 .f32 := Memref.whole cc0_scratch1
/-- Part 0's maxima. -/
abbrev sM0 : Memref sig .tc .vmem S1104x1 .f32 := Memref.whole cc0_scratch2
/-- Part 1's maxima. -/
abbrev sM1 : Memref sig .tc .vmem S1104x1 .f32 := Memref.whole cc0_scratch3
/-- Part 0's sums of weights. -/
abbrev sL0 : Memref sig .tc .vmem S1104x1 .f32 := Memref.whole cc0_scratch4
/-- Part 1's sums of weights. -/
abbrev sL1 : Memref sig .tc .vmem S1104x1 .f32 := Memref.whole cc0_scratch5

variable (F) in
/-- The six running buffers' contents: accumulator, maxima, sums, for each of the two parts. -/
structure St (c : Dev nD) where
  a0 : Buf (Elt F) (sA0.view.loc (c : Thread nD τ))
  a1 : Buf (Elt F) (sA1.view.loc (c : Thread nD τ))
  m0 : Buf (Elt F) (sM0.view.loc (c : Thread nD τ))
  m1 : Buf (Elt F) (sM1.view.loc (c : Thread nD τ))
  l0 : Buf (Elt F) (sL0.view.loc (c : Thread nD τ))
  l1 : Buf (Elt F) (sL1.view.loc (c : Thread nD τ))

/-- The buffers held at the state `s`. -/
abbrev ownSt (s : St F c) : sProp 𝕄 := own6 c sA0 sA1 sM0 sM1 sL0 sL1 s.a0 s.a1 s.m0 s.m1 s.l0 s.l1

/-- The buffers zeroed. -/
def zeroSt : St F c where
  a0 := zeroA c sA0 k0_pay34
  a1 := zeroA c sA1 k0_pay37
  m0 := zeroM c sM0 k0_pay35
  m1 := zeroM c sM1 k0_pay38
  l0 := zeroM c sL0 k0_pay36
  l1 := zeroM c sL1 k0_pay39

/-- Window 0's staging buffer at point `t`, holding its block. -/
abbrev R0 (t : Fin cfg0.N) : Buf (Elt F) ((st0_0 t).view.loc (c : Thread nD τ)) := (st0_0 t).view.rep (iblk m c 0 t)
/-- Window 1's staging buffer at point `t`, holding its block. -/
abbrev R1 (t : Fin cfg0.N) : Buf (Elt F) ((st0_1 t).view.loc (c : Thread nD τ)) := (st0_1 t).view.rep (iblk m c 1 t)
/-- Window 2's staging buffer at point `t`, holding its block. -/
abbrev R2 (t : Fin cfg0.N) : Buf (Elt F) ((st0_2 t).view.loc (c : Thread nD τ)) := (st0_2 t).view.rep (iblk m c 2 t)
/-- Window 3's staging buffer at point `t`, holding its block. -/
abbrev R3 (t : Fin cfg0.N) : Buf (Elt F) ((st0_3 t).view.loc (c : Thread nD τ)) := (st0_3 t).view.rep (iblk m c 3 t)
/-- Window 4's staging buffer at point `t`, holding its block. -/
abbrev R4 (t : Fin cfg0.N) : Buf (Elt F) ((st0_4 t).view.loc (c : Thread nD τ)) := (st0_4 t).view.rep (iblk m c 4 t)
/-- Window 5's staging buffer at point `t`, holding its block. -/
abbrev R5 (t : Fin cfg0.N) : Buf (Elt F) ((st0_5 t).view.loc (c : Thread nD τ)) := (st0_5 t).view.rep (iblk m c 5 t)
/-- Window 6's staging buffer at point `t`, holding its block. -/
abbrev R6 (t : Fin cfg0.N) : Buf (Elt F) ((st0_6 t).view.loc (c : Thread nD τ)) := (st0_6 t).view.rep (iblk m c 6 t)
/-- Window 7's staging buffer at point `t`, holding its block. -/
abbrev R7 (t : Fin cfg0.N) : Buf (Elt F) ((st0_7 t).view.loc (c : Thread nD τ)) := (st0_7 t).view.rep (iblk m c 7 t)
/-- Window 8's staging buffer at point `t`, holding its block. -/
abbrev R8 (t : Fin cfg0.N) : Buf (Elt F) ((st0_8 t).view.loc (c : Thread nD τ)) := (st0_8 t).view.rep (iblk m c 8 t)

/-- The windows of ids of every step lie inside the buffers. -/
def ChkOK : Prop := ∀ t : Fin cfg0.N, k0_chk1 (wS0 c (grid0.coords t) (st0_0 t) (R0 m c t)) (wS1 c (grid0.coords t) (st0_0 t) (R0 m c t))
  (wL0 c (grid0.coords t) (st0_0 t) (R0 m c t)) (wL1 c (grid0.coords t) (st0_0 t) (R0 m c t))

variable (hk : ChkOK m c)

/-- The state after point `t`, from the state before it. -/
def stepSt (t : Fin cfg0.N) (s : St F c) : St F c where
  a0 := endA0 c (grid0.coords t) (st0_0 t) (st0_1 t) (st0_2 t) (st0_4 t) (st0_6 t) (st0_7 t) (st0_8 t) sA0 sM0 (R0 m c t) (R1 m c t) (R2 m c t) (R4 m c t) (R6 m c t) (R7 m c t) (R8 m c t) (hk t) s.m0 s.a0
  a1 := endA1 c (grid0.coords t) (st0_0 t) (st0_1 t) (st0_3 t) (st0_5 t) (st0_6 t) (st0_7 t) (st0_8 t) sA1 sM1 (R0 m c t) (R1 m c t) (R3 m c t) (R5 m c t) (R6 m c t) (R7 m c t) (R8 m c t) (hk t) s.m1 s.a1
  m0 := endM0 c (grid0.coords t) (st0_0 t) (st0_1 t) (st0_2 t) (st0_4 t) (st0_6 t) (st0_7 t) (st0_8 t) sM0 (R0 m c t) (R1 m c t) (R2 m c t) (R4 m c t) (R6 m c t) (R7 m c t) (R8 m c t) (hk t) s.m0
  m1 := endM1 c (grid0.coords t) (st0_0 t) (st0_1 t) (st0_3 t) (st0_5 t) (st0_6 t) (st0_7 t) (st0_8 t) sM1 (R0 m c t) (R1 m c t) (R3 m c t) (R5 m c t) (R6 m c t) (R7 m c t) (R8 m c t) (hk t) s.m1
  l0 := endL0 c (grid0.coords t) (st0_0 t) (st0_1 t) (st0_2 t) (st0_4 t) (st0_6 t) (st0_7 t) (st0_8 t) sM0 sL0 (R0 m c t) (R1 m c t) (R2 m c t) (R4 m c t) (R6 m c t) (R7 m c t) (R8 m c t) (hk t) s.m0 s.l0
  l1 := endL1 c (grid0.coords t) (st0_0 t) (st0_1 t) (st0_3 t) (st0_5 t) (st0_6 t) (st0_7 t) (st0_8 t) sM1 sL1 (R0 m c t) (R1 m c t) (R3 m c t) (R5 m c t) (R6 m c t) (R7 m c t) (R8 m c t) (hk t) s.m1 s.l1

/-- The state before point `n` (the zeroing counted before point 0). -/
def stAt : ℕ → St F c
  | 0 => zeroSt c
  | n + 1 => if h : n < cfg0.N then stepSt m c hk ⟨n, h⟩ (stAt n) else stAt n

/-- The state after a point is one step from the state before it. -/
theorem stAt_succ (t : Fin cfg0.N) : stAt m c hk (t.val + 1) = stepSt m c hk t (stAt m c hk t.val) := by
  rw [stAt, dif_pos t.isLt]

/-- The output block stored at the last point, from the state after it. -/
def outPay (s : St F c) : FVec F S1024x128 .f32 :=
  k0_pay9 (sM0.view.readAt (Elt F) (Rect.unit (s := S1104x1) ![0, 0] S1024x1.size inb_S1104x1_S1024x1_0_0).toLoadRect s.m0)
      (sM1.view.readAt (Elt F) (Rect.unit (s := S1104x1) ![0, 0] S1024x1.size inb_S1104x1_S1024x1_0_0).toLoadRect s.m1)
      (sA0.view.readAt (Elt F) (Rect.unit (s := S1104x128) ![0, 0] S1024x128.size inb_S1104x128_S1024x128_0_0).toLoadRect s.a0)
      (sL0.view.readAt (Elt F) (Rect.unit (s := S1104x1) ![0, 0] S1024x1.size inb_S1104x1_S1024x1_0_0).toLoadRect s.l0)
      (sA1.view.readAt (Elt F) (Rect.unit (s := S1104x128) ![0, 0] S1024x128.size inb_S1104x128_S1024x128_0_0).toLoadRect s.a1)
      (sL1.view.readAt (Elt F) (Rect.unit (s := S1104x1) ![0, 0] S1024x1.size inb_S1104x1_S1024x1_0_0).toLoadRect s.l1)

/-! ## The pipeline's proof data -/

/-- Before the first point the running buffers hold anything; before a later point `n`, the state `stAt n`. -/
def PhiAt (n : ℕ) : sProp 𝕄 :=
  if n = 0 then Pipeline.ΦA spec0 c else iprop(ownSt c (stAt m c hk n) ∗ ∃ r, prngReg c r)

/-- What the windows' buffers and arrays hold point by point. -/
def dats (hk : ∀ c, ChkOK m c) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outPay c (stAt m c (hk c) cfg0.N)
  Φ t := PhiAt m c (hk c) t.val
  q w := Pipeline.shareOf spec0 w
  owed _ := 0

section Obl
variable (hk : ∀ c, ChkOK m c)

/-- Operand 0's buffer holds the point's block before the body. -/
theorem before_w0 (t : Fin cfg0.N) (d) : (dats m hk 0 c).before 0 t d = iblk m c 0 t :=
  before0_0_of m (dats m hk 0 c) rfl (fun _ => rfl) t d
/-- Operand 0's buffer still holds it after. -/
theorem after_w0 (t : Fin cfg0.N) : (dats m hk 0 c).after 0 t = iblk m c 0 t := rfl
/-- Operand 1's buffer holds the point's block before the body. -/
theorem before_w1 (t : Fin cfg0.N) (d) : (dats m hk 0 c).before 1 t d = iblk m c 1 t :=
  before0_1_of m (dats m hk 0 c) rfl (fun _ => rfl) t d
/-- Operand 1's buffer still holds it after. -/
theorem after_w1 (t : Fin cfg0.N) : (dats m hk 0 c).after 1 t = iblk m c 1 t := rfl
/-- Operand 2's buffer holds the point's block before the body. -/
theorem before_w2 (t : Fin cfg0.N) (d) : (dats m hk 0 c).before 2 t d = iblk m c 2 t :=
  before0_2_of m (dats m hk 0 c) rfl (fun _ => rfl) t d
/-- Operand 2's buffer still holds it after. -/
theorem after_w2 (t : Fin cfg0.N) : (dats m hk 0 c).after 2 t = iblk m c 2 t := rfl
/-- Operand 3's buffer holds the point's block before the body. -/
theorem before_w3 (t : Fin cfg0.N) (d) : (dats m hk 0 c).before 3 t d = iblk m c 3 t :=
  before0_3_of m (dats m hk 0 c) rfl (fun _ => rfl) t d
/-- Operand 3's buffer still holds it after. -/
theorem after_w3 (t : Fin cfg0.N) : (dats m hk 0 c).after 3 t = iblk m c 3 t := rfl
/-- Operand 4's buffer holds the point's block before the body. -/
theorem before_w4 (t : Fin cfg0.N) (d) : (dats m hk 0 c).before 4 t d = iblk m c 4 t :=
  before0_4_of m (dats m hk 0 c) rfl (fun _ => rfl) t d
/-- Operand 4's buffer still holds it after. -/
theorem after_w4 (t : Fin cfg0.N) : (dats m hk 0 c).after 4 t = iblk m c 4 t := rfl
/-- Operand 5's buffer holds the point's block before the body. -/
theorem before_w5 (t : Fin cfg0.N) (d) : (dats m hk 0 c).before 5 t d = iblk m c 5 t :=
  before0_5_of m (dats m hk 0 c) rfl (fun _ => rfl) t d
/-- Operand 5's buffer still holds it after. -/
theorem after_w5 (t : Fin cfg0.N) : (dats m hk 0 c).after 5 t = iblk m c 5 t := rfl
/-- Operand 6's buffer holds the point's block before the body. -/
theorem before_w6 (t : Fin cfg0.N) (d) : (dats m hk 0 c).before 6 t d = iblk m c 6 t :=
  before0_6_of m (dats m hk 0 c) rfl (fun _ => rfl) t d
/-- Operand 6's buffer still holds it after. -/
theorem after_w6 (t : Fin cfg0.N) : (dats m hk 0 c).after 6 t = iblk m c 6 t := rfl
/-- Operand 7's buffer holds the point's block before the body. -/
theorem before_w7 (t : Fin cfg0.N) (d) : (dats m hk 0 c).before 7 t d = iblk m c 7 t :=
  before0_7_of m (dats m hk 0 c) rfl (fun _ => rfl) t d
/-- Operand 7's buffer still holds it after. -/
theorem after_w7 (t : Fin cfg0.N) : (dats m hk 0 c).after 7 t = iblk m c 7 t := rfl
/-- Operand 8's buffer holds the point's block before the body. -/
theorem before_w8 (t : Fin cfg0.N) (d) : (dats m hk 0 c).before 8 t d = iblk m c 8 t :=
  before0_8_of m (dats m hk 0 c) rfl (fun _ => rfl) t d
/-- Operand 8's buffer still holds it after. -/
theorem after_w8 (t : Fin cfg0.N) : (dats m hk 0 c).after 8 t = iblk m c 8 t := rfl

/-- The output block at the last point. -/
theorem after_w9 (t : Fin cfg0.N) : (dats m hk 0 c).after 9 t = outPay c (stAt m c (hk c) cfg0.N) := rfl

/-- The zeroing is guarded by the first point. -/
theorem isFirst_iff : ∀ t : Fin grid0.N, isFirst (grid0.coords t) = 1#1 ↔ t.val = 0 := by decide +kernel
/-- The final store is guarded by the last point. -/
theorem cond6_iff : ∀ t : Fin grid0.N, k0_cond6 (grid0.coords t) = 1#1 ↔ t.val = 19 := by decide +kernel
/-- The output block is left alone before the last point. -/
theorem idle9_of_ne : ∀ t : Fin grid0.N, t.val ≠ 19 → cfg0.idle 9 (grid0.coords t) = true := by decide +kernel
/-- The output block is written at the last point. -/
theorem idle9_of_eq : ∀ t : Fin grid0.N, t.val = 19 → cfg0.idle 9 (grid0.coords t) = false := by decide +kernel
/-- The output block is not written back before the last point. -/
theorem flush9_of_ne : ∀ t : Fin grid0.N, t.val ≠ 19 → win0_9.flush t = false := by decide +kernel

/-- The procedure the launch calls is the kernel's body at the point's blocks. -/
theorem defs_tc (t : Fin cfg0.N) : (defs₀ (F := F)) .tc cfg0.body (cfg0.bodyArgs t (cfg0.slots t)) = bodyAt0 t := rfl
end Obl

end Cert.KernelIdeal.Hand

end
-- ==== Proof.Obl2.lean ====
module

public import proofs.«01_k».proof.Proof.Obl
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)
variable (hk : ∀ c, ChkOK m c)

/-- The nine input windows' staging buffers at point `t`, each holding its block. -/
abbrev ownIn (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t))

set_option maxHeartbeats 1000000 in
set_option backward.isDefEq.respectTransparency.types false in
/-- The body at the first point, from running buffers at anything. -/
theorem pointFirst (t : Fin cfg0.N) (h0 : isFirst (grid0.coords t) = 1#1) (h6 : ¬ k0_cond6 (grid0.coords t) = 1#1) (s : St F c) (X : (win0_9).block.Idx → Elt F (win0_9).elt) :
    iprop(ownSt c s ∗ ownIn m c t ∗ owns (c : Thread nD τ) (st0_9 t) fullShare X)
      ⊢ wp frame (wpE (defs₀ (F := F)) Variants.none (c : Thread nD τ) none) Set.univ (bodyAt0 t)
        (fun _ => iprop(ownSt c (stepSt m c (hk c) t (zeroSt c)) ∗ ownIn m c t ∗ owns (c : Thread nD τ) (st0_9 t) fullShare X)) := by
  have hb := bodyFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sA0 (Memref.isWhole_whole _) sA1 (Memref.isWhole_whole _) sM0 (Memref.isWhole_whole _) sM1 (Memref.isWhole_whole _) sL0 (Memref.isWhole_whole _) sL1 (Memref.isWhole_whole _) (R0 m c t) (R1 m c t) (R2 m c t) (R3 m c t) (R4 m c t) (R5 m c t) (R6 m c t) (R7 m c t) (R8 m c t) ((st0_9 t).view.rep X) s.a0 s.a1 s.m0 s.m1 s.l0 s.l1 (hk c t) h0 h6
  unfold ownIn
  simp only [owns_eq_rep]
  iintro ⟨HS, ⟨H0, H1, H2, H3, H4, H5, H6, H7, H8⟩, H9⟩
  iapply (wp_wand_r frame (wpE (defs₀ (F := F)) Variants.none (c : Thread nD τ) none) Set.univ)
  isplitl [HS H0 H1 H2 H3 H4 H5 H6 H7 H8 H9]
  · iapply hb
    isplitr [HS]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iintro %_ ⟨⟨K0, K1, K2, K3, K4, K5, K6, K7, K8, K9⟩, HS⟩
    isplitl [HS]; · iexact HS
    isplitr [K9]
    ·
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      iexact K8
    · iexact K9

set_option maxHeartbeats 1000000 in
set_option backward.isDefEq.respectTransparency.types false in
/-- The body at a point between. -/
theorem pointMid (t : Fin cfg0.N) (h0 : ¬ isFirst (grid0.coords t) = 1#1) (h6 : ¬ k0_cond6 (grid0.coords t) = 1#1) (s : St F c) (X : (win0_9).block.Idx → Elt F (win0_9).elt) :
    iprop(ownSt c s ∗ ownIn m c t ∗ owns (c : Thread nD τ) (st0_9 t) fullShare X)
      ⊢ wp frame (wpE (defs₀ (F := F)) Variants.none (c : Thread nD τ) none) Set.univ (bodyAt0 t)
        (fun _ => iprop(ownSt c (stepSt m c (hk c) t s) ∗ ownIn m c t ∗ owns (c : Thread nD τ) (st0_9 t) fullShare X)) := by
  have hb := bodyMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sA0 (Memref.isWhole_whole _) sA1 (Memref.isWhole_whole _) sM0 (Memref.isWhole_whole _) sM1 (Memref.isWhole_whole _) sL0 (Memref.isWhole_whole _) sL1 (Memref.isWhole_whole _) (R0 m c t) (R1 m c t) (R2 m c t) (R3 m c t) (R4 m c t) (R5 m c t) (R6 m c t) (R7 m c t) (R8 m c t) ((st0_9 t).view.rep X) s.a0 s.a1 s.m0 s.m1 s.l0 s.l1 (hk c t) h0 h6
  unfold ownIn
  simp only [owns_eq_rep]
  iintro ⟨HS, ⟨H0, H1, H2, H3, H4, H5, H6, H7, H8⟩, H9⟩
  iapply (wp_wand_r frame (wpE (defs₀ (F := F)) Variants.none (c : Thread nD τ) none) Set.univ)
  isplitl [HS H0 H1 H2 H3 H4 H5 H6 H7 H8 H9]
  · iapply hb
    isplitr [HS]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iintro %_ ⟨⟨K0, K1, K2, K3, K4, K5, K6, K7, K8, K9⟩, HS⟩
    isplitl [HS]; · iexact HS
    isplitr [K9]
    ·
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      iexact K8
    · iexact K9

end Cert.KernelIdeal.Hand

end
-- ==== Proof.Obl3.lean ====
module

public import proofs.«01_k».proof.Proof.Obl2
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)
variable (hk : ∀ c, ChkOK m c)

/-- A block stored whole holds what was stored. -/
theorem own_out (a : Memref sig .tc .vmem S1024x128 .f32) (f : Buf (Elt F) (a.view.loc (c : Thread nD τ))) (P : FVec F S1024x128 .f32) :
    own c a (a.view.writes (Elt F) f [⟨Rect.unit (s := S1024x128) ![0, 0] S1024x128.size inb_S1024x128_S1024x128_0_0, P⟩])
      ⊢ (a.view.loc (c : Thread nD τ) ↦[a.view.set]{fullShare} a.view.rep P : sProp 𝕄) := by
  rw [← owns_eq_rep]
  unfold own owns
  iintro H
  iexists (a.view.writes (Elt F) f [⟨Rect.unit (s := S1024x128) ![0, 0] S1024x128.size inb_S1024x128_S1024x128_0_0, P⟩])
  isplitr
  · ipureintro; exact View.read_writes_full _ _ _ _ _
  · iexact H

/-- The output block stored from running buffers holds `outPay` of their state. -/
theorem own_fin (a : Memref sig .tc .vmem S1024x128 .f32) (G : Buf (Elt F) (a.view.loc (c : Thread nD τ))) (A0) (A1) (M0) (M1) (L0) (L1) :
    own c a (finOut c a sA0 sA1 sM0 sM1 sL0 sL1 G A0 A1 M0 M1 L0 L1)
      ⊢ (a.view.loc (c : Thread nD τ) ↦[a.view.set]{fullShare} a.view.rep (outPay c ⟨A0, A1, M0, M1, L0, L1⟩) : sProp 𝕄) :=
  own_out c a G (outPay c ⟨A0, A1, M0, M1, L0, L1⟩)

set_option maxHeartbeats 1000000 in
set_option backward.isDefEq.respectTransparency.types false in
/-- The body at the last point: the output block is stored. -/
theorem pointLast (t : Fin cfg0.N) (h0 : ¬ isFirst (grid0.coords t) = 1#1) (h6 : k0_cond6 (grid0.coords t) = 1#1) (s : St F c) (X : (win0_9).block.Idx → Elt F (win0_9).elt) :
    iprop(ownSt c s ∗ ownIn m c t ∗ owns (c : Thread nD τ) (st0_9 t) fullShare X)
      ⊢ wp frame (wpE (defs₀ (F := F)) Variants.none (c : Thread nD τ) none) Set.univ (bodyAt0 t)
        (fun _ => iprop(ownSt c (stepSt m c (hk c) t s) ∗ ownIn m c t ∗ owns (c : Thread nD τ) (st0_9 t) fullShare (outPay c (stepSt m c (hk c) t s)))) := by
  have hb := bodyLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sA0 (Memref.isWhole_whole _) sA1 (Memref.isWhole_whole _) sM0 (Memref.isWhole_whole _) sM1 (Memref.isWhole_whole _) sL0 (Memref.isWhole_whole _) sL1 (Memref.isWhole_whole _) (R0 m c t) (R1 m c t) (R2 m c t) (R3 m c t) (R4 m c t) (R5 m c t) (R6 m c t) (R7 m c t) (R8 m c t) ((st0_9 t).view.rep X) s.a0 s.a1 s.m0 s.m1 s.l0 s.l1 (hk c t) h0 h6
  unfold ownIn
  simp only [owns_eq_rep]
  iintro ⟨HS, ⟨H0, H1, H2, H3, H4, H5, H6, H7, H8⟩, H9⟩
  iapply (wp_wand_r frame (wpE (defs₀ (F := F)) Variants.none (c : Thread nD τ) none) Set.univ)
  isplitl [HS H0 H1 H2 H3 H4 H5 H6 H7 H8 H9]
  · iapply hb
    isplitr [HS]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iintro %_ ⟨⟨K0, K1, K2, K3, K4, K5, K6, K7, K8, K9⟩, HS⟩
    isplitl [HS]; · iexact HS
    isplitr [K9]
    ·
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      iexact K8
    · unfold stepSt
      iapply (own_fin c (st0_9 t) ((st0_9 t).view.rep X) (endA0 c (grid0.coords t) (st0_0 t) (st0_1 t) (st0_2 t) (st0_4 t) (st0_6 t) (st0_7 t) (st0_8 t) sA0 sM0 (R0 m c t) (R1 m c t) (R2 m c t) (R4 m c t) (R6 m c t) (R7 m c t) (R8 m c t) (hk c t) s.m0 s.a0)
        (endA1 c (grid0.coords t) (st0_0 t) (st0_1 t) (st0_3 t) (st0_5 t) (st0_6 t) (st0_7 t) (st0_8 t) sA1 sM1 (R0 m c t) (R1 m c t) (R3 m c t) (R5 m c t) (R6 m c t) (R7 m c t) (R8 m c t) (hk c t) s.m1 s.a1)
        (endM0 c (grid0.coords t) (st0_0 t) (st0_1 t) (st0_2 t) (st0_4 t) (st0_6 t) (st0_7 t) (st0_8 t) sM0 (R0 m c t) (R1 m c t) (R2 m c t) (R4 m c t) (R6 m c t) (R7 m c t) (R8 m c t) (hk c t) s.m0)
        (endM1 c (grid0.coords t) (st0_0 t) (st0_1 t) (st0_3 t) (st0_5 t) (st0_6 t) (st0_7 t) (st0_8 t) sM1 (R0 m c t) (R1 m c t) (R3 m c t) (R5 m c t) (R6 m c t) (R7 m c t) (R8 m c t) (hk c t) s.m1)
        (endL0 c (grid0.coords t) (st0_0 t) (st0_1 t) (st0_2 t) (st0_4 t) (st0_6 t) (st0_7 t) (st0_8 t) sM0 sL0 (R0 m c t) (R1 m c t) (R2 m c t) (R4 m c t) (R6 m c t) (R7 m c t) (R8 m c t) (hk c t) s.m0 s.l0)
        (endL1 c (grid0.coords t) (st0_0 t) (st0_1 t) (st0_3 t) (st0_5 t) (st0_6 t) (st0_7 t) (st0_8 t) sM1 sL1 (R0 m c t) (R1 m c t) (R3 m c t) (R5 m c t) (R6 m c t) (R7 m c t) (R8 m c t) (hk c t) s.m1 s.l1))
      iexact K9

end Cert.KernelIdeal.Hand

end
-- ==== Proof.Obl4.lean ====
module

public import proofs.«01_k».proof.Proof.Obl3
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)
variable (hk : ∀ c, ChkOK m c)

set_option backward.isDefEq.respectTransparency.types false in
/-- The body at every point keeps the pipeline's proof data. -/
theorem body_obligation : BodyObligation (dats (F := F) m hk 0 c) (defs₀ (F := F)) Variants.none () Set.univ := fun t => by
  rw [bigSep_W0, bigSep_W0]
  dsimp only
  simp only [before_w0, before_w1, before_w2, before_w3, before_w4, before_w5, before_w6, before_w7, before_w8,
    after_w0, after_w1, after_w2, after_w3, after_w4, after_w5, after_w6, after_w7, after_w8, after_w9]
  rw [show (dats m hk 0 c).Φ t.castSucc = PhiAt m c (hk c) t.val from rfl, show (dats m hk 0 c).Φ t.succ = PhiAt m c (hk c) (t.val + 1) from rfl]
  unfold Dat.owesAt Pipeline.owesWithin
  rw [show (dats m hk 0 c).owed t.castSucc = 0 from rfl, show (dats m hk 0 c).owed t.succ = 0 from rfl]
  sl_rw [defs_tc t]
  have hs1 : PhiAt m c (hk c) (t.val + 1) = iprop(ownSt c (stepSt m c (hk c) t (stAt m c (hk c) t.val)) ∗ ∃ r, prngReg c r) := by
    unfold PhiAt; rw [if_neg (Nat.succ_ne_zero _), stAt_succ]
  rw [hs1]
  rcases Nat.eq_zero_or_pos t.val with h | h
  · have hs0 : PhiAt m c (hk c) t.val = Pipeline.ΦA spec0 c := by unfold PhiAt; rw [if_pos h]
    have hz : stAt m c (hk c) t.val = zeroSt c := by rw [h]; rfl
    rw [hs0, hz, show idle0 9 (grid0.coords t) = true from idle9_of_ne t (by omega), show (win0 9).flush t = false from flush9_of_ne t (by omega)]
    unfold Pipeline.ΦA
    rw [scopedRest0_eq]
    dsimp only
    iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases HP with ⟨⟨⟨%f0, S0⟩, ⟨%f1, S1⟩, ⟨%f2, S2⟩, ⟨%f3, S3⟩, ⟨%f4, S4⟩, ⟨%f5, S5⟩⟩, HG⟩
    iapply (wp_wand_r frame (wpE (defs₀ (F := F)) Variants.none (c : Thread nD τ) none) Set.univ)
    isplitl [S0 S1 S2 S3 S4 S5 H0 H1 H2 H3 H4 H5 H6 H7 H8 H9]
    · iapply (pointFirst m c hk t ((isFirst_iff t).mpr h) (fun e => by have := (cond6_iff t).mp e; omega) ⟨f0, f1, f2, f3, f4, f5⟩ ((dats m hk 0 c).before 9 t d9))
      isplitl [S0 S1 S2 S3 S4 S5]
      · unfold ownSt own6 own
        simp only [Memref.view_whole, View.set_whole]
        isplitl [S0]; · iexact S0
        isplitl [S1]; · iexact S1
        isplitl [S2]; · iexact S2
        isplitl [S3]; · iexact S3
        isplitl [S4]; · iexact S4
        iexact S5
      isplitr [H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact H9
    · iintro %_ ⟨HS, ⟨H0, H1, H2, H3, H4, H5, H6, H7, H8⟩, H9⟩
      isplitl [HS HG]
      · isplitl [HS]; · iexact HS
        iexact HG
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists d9; iexact H9
  have hs0 : PhiAt m c (hk c) t.val = iprop(ownSt c (stAt m c (hk c) t.val) ∗ ∃ r, prngReg c r) := by unfold PhiAt; rw [if_neg (by omega)]
  rw [hs0]
  by_cases h' : t.val = 19
  · have hN : stAt m c (hk c) cfg0.N = stepSt m c (hk c) t (stAt m c (hk c) t.val) := by
      rw [← stAt_succ, h']; rfl
    rw [show idle0 9 (grid0.coords t) = false from idle9_of_eq t h', hN]
    dsimp only
    iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases HP with ⟨HS, HG⟩
    iapply (wp_wand_r frame (wpE (defs₀ (F := F)) Variants.none (c : Thread nD τ) none) Set.univ)
    isplitl [HS H0 H1 H2 H3 H4 H5 H6 H7 H8 H9]
    · iapply (pointLast m c hk t (fun e => by have := (isFirst_iff t).mp e; omega) ((cond6_iff t).mpr h') (stAt m c (hk c) t.val) ((dats m hk 0 c).before 9 t d9))
      isplitl [HS]; · iexact HS
      isplitr [H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact H9
    · iintro %_ ⟨HS, ⟨H0, H1, H2, H3, H4, H5, H6, H7, H8⟩, H9⟩
      isplitl [HS HG]
      · isplitl [HS]; · iexact HS
        iexact HG
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [show idle0 9 (grid0.coords t) = true from idle9_of_ne t h', show (win0 9).flush t = false from flush9_of_ne t h']
    dsimp only
    iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases HP with ⟨HS, HG⟩
    iapply (wp_wand_r frame (wpE (defs₀ (F := F)) Variants.none (c : Thread nD τ) none) Set.univ)
    isplitl [HS H0 H1 H2 H3 H4 H5 H6 H7 H8 H9]
    · iapply (pointMid m c hk t (fun e => by have := (isFirst_iff t).mp e; omega) (fun e => h' ((cond6_iff t).mp e)) (stAt m c (hk c) t.val) ((dats m hk 0 c).before 9 t d9))
      isplitl [HS]; · iexact HS
      isplitr [H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact H9
    · iintro %_ ⟨HS, ⟨H0, H1, H2, H3, H4, H5, H6, H7, H8⟩, H9⟩
      isplitl [HS HG]
      · isplitl [HS]; · iexact HS
        iexact HG
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists d9; iexact H9

end Cert.KernelIdeal.Hand

end
-- ==== Proof.Run.lean ====
module

public import proofs.«01_k».proof.Proof.Obl4
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hk : ∀ c, ChkOK m c)

/-- The scratch buffers the launch starts from are of the invariant at the first point. -/
theorem phi_in (c : Dev nD) : Pipeline.ΦA spec0 c ⊢ (dats (F := F) m hk 0 c).Φ 0 := by
  rw [show (dats m hk 0 c).Φ 0 = PhiAt m c (hk c) 0 from rfl]
  unfold PhiAt; rw [if_pos rfl]

/-- The invariant after the last point gives the scratch buffers back. -/
theorem phi_out (c : Dev nD) : (dats (F := F) m hk 0 c).Φ (Fin.last cfg0.N) ⊢ Pipeline.ΦA spec0 c := by
  rw [show (dats m hk 0 c).Φ (Fin.last cfg0.N) = PhiAt m c (hk c) cfg0.N from rfl]
  unfold PhiAt; rw [if_neg (by decide)]
  unfold Pipeline.ΦA
  rw [scopedRest0_eq]
  unfold ownSt own6 own
  simp only [Memref.view_whole, View.set_whole]
  iintro ⟨⟨S0, S1, S2, S3, S4, S5⟩, HG⟩
  isplitr [HG]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  · iexact HG

/-- The whole run: it ends with every semaphore at rest, the arguments unchanged, and the result array at the
    single block the last point writes back. -/
theorem run_all : θ_run defs (onTc (τ := τ) (main (F := F))) ⟨m, fun _ => 0, ρ⟩ (fun r =>
    Pipeline.FramePost cfgs (dats m hk) 0 (V m) r ∧ r.2.sem = fun _ => 0) :=
  Pipeline.θ_run_frame_track_shared cfgs (dats m hk) 0 launch₀0 defs₀ Variants.none m ρ main
    (fun c => (body_obligation m c hk).loose) (fun _ _ _ => rfl) (fun _ _ => rfl) (V m) (Gen.hmain m Variants.none) (fun _ _ => rfl)
    (phi_in m hk) (phi_out m hk) _ (fun _ h => h)

/-- The result array after the run. -/
theorem arr9 (c : Dev nD) : (dats m hk 0 c).arrAt 9 cfg0.N = outPay c (stAt m c (hk c) cfg0.N) := by
  refine (dats m hk 0 c).arrAt_eq_of_after_last 9 (⟨19, by decide⟩ : Fin cfg0.N) (by decide +kernel) _ fun j => ?_
  blk_simp
  exact congrArg (outPay c (stAt m c (hk c) cfg0.N)) (funext fun a => Fin.ext rfl)

include hk in
/-- A state the run can end in has the arguments as they were. -/
theorem kept (r : PUnit × MemSt nD τ sig (Elt F)) (h : Pipeline.FramePost cfgs (dats m hk) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 5).trans (((dats m hk 0 c).arrAt_in 5 rfl _).trans (V_main_arg0 m c)),
    ((h c).2 main_arg1 (Pipeline.mem_restRefs_of main_arg1 (by decide) (by decide))).trans (V_main_arg1 m c),
    ((h c).1 6).trans (((dats m hk 0 c).arrAt_in 6 rfl _).trans (V_main_arg2 m c)),
    ((h c).2 main_arg3 (Pipeline.mem_restRefs_of main_arg3 (by decide) (by decide))).trans (V_main_arg3 m c),
    ((h c).1 8).trans (((dats m hk 0 c).arrAt_in 8 rfl _).trans (V_main_arg4 m c)),
    ((h c).1 1).trans (((dats m hk 0 c).arrAt_in 1 rfl _).trans (V_main_arg5 m c))⟩

include hk in
/-- Every run of the kernel's program ends with the arguments as they were and every semaphore at rest. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hh => ⟨kept m hk r hh.1, hh.2⟩) (run_all m ρ hk)

/-- Every run leaves the block the last point stores in the result array, and the arguments as they were. -/
theorem run_val : θ_run defs (onTc (τ := τ) (main (F := F))) ⟨m, fun _ => 0, ρ⟩ (fun r => ∀ c : Dev nD,
      r.2.mem ((c.tc : Thread nD τ).loc main_v12) = outPay c (stAt m c (hk c) cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hh c => ⟨((hh.1 c).1 9).trans (arr9 m hk c), kept m hk r hh.1 c⟩) (run_all m ρ hk)

end Cert.KernelIdeal.Hand

end
-- ==== Proof.Words.lean ====
module

public import proofs.«01_k».proof.Proof.Gen.KernelIdeal.Frame
public import Idealize.ShloMosaic.Lib.Affine
public import Idealize.ShloMosaic.Lib.LoopRemainder

@[expose] public section

set_option maxRecDepth 16384

noncomputable section

namespace Cert.KernelIdeal.Hand

open Cert.KernelIdeal Cert.KernelIdeal.Gen
open Idealize.ShloMosaic

/-! ## The words of a step: how many windows, where each begins -/

/-- The number of windows of forty ids that `d + 1` ids in a row need, as the kernel's scalar unit computes it. -/
abbrev nWin (v46 : BitVec 32) : BitVec 32 :=
  Scalar.addi (Scalar.select (Scalar.andi (Scalar.cmpi .ne
      (Scalar.subi (Scalar.extui (Scalar.cmpi .sgt v46 0#32) : BitVec 32) (Scalar.extui (Scalar.cmpi .slt v46 0#32)))
      (Scalar.subi (Scalar.extui (Scalar.cmpi .sgt 40#32 0#32) : BitVec 32) (Scalar.extui (Scalar.cmpi .slt 40#32 0#32))))
      (Scalar.cmpi .ne (Scalar.remsi v46 40#32) 0#32))
    (Scalar.subi (Scalar.divsi v46 40#32) 1#32) (Scalar.divsi v46 40#32)) 1#32

/-- It is the quotient by forty, plus one. -/
theorem nWin_eq : ∀ d : Fin 1024, nWin (BitVec.ofNat 32 d.val) = BitVec.ofNat 32 (d.val / 40 + 1) := by decide +kernel

/-- A difference of words is the word of the difference. -/
theorem subi_ofNat (l s : ℕ) (h : s ≤ l) (hl : l < 1024) :
    Scalar.subi (BitVec.ofNat 32 l) (BitVec.ofNat 32 s) = BitVec.ofNat 32 (l - s) := by
  apply BitVec.eq_of_toNat_eq
  simp only [Scalar.subi, IntOp.subi, BitVec.toNat_sub, BitVec.toNat_ofNat]
  omega

/-- The number of windows for ids from `s` to `l`. -/
theorem nWin_sub (l s : ℕ) (h : s ≤ l) (hl : l < 1024) :
    nWin (Scalar.subi (BitVec.ofNat 32 l) (BitVec.ofNat 32 s)) = BitVec.ofNat 32 ((l - s) / 40 + 1) := by
  rw [subi_ofNat l s h hl]
  exact nWin_eq ⟨l - s, by omega⟩

/-- The loop's bound is the larger of the two numbers of windows. -/
theorem ub_eq : ∀ a b : Fin 32, Scalar.addi 0#32 (Scalar.muli (Scalar.divsi (Scalar.subi (Scalar.maxsi (BitVec.ofNat 32 a.val) (BitVec.ofNat 32 b.val)) 0#32) 1#32) 1#32)
    = BitVec.ofNat 32 (max a.val b.val) := by decide +kernel

/-- A loop from zero by ones runs as often as its bound says. -/
theorem trips_lit : ∀ n : Fin 32, Scf.trips 0#32 (BitVec.ofNat 32 n.val) 1#32 = n.val := by decide +kernel

/-- The loop's variable on trip `k` is `k`. -/
theorem iv_lit : ∀ k : Fin 32, Scf.iv 0#32 1#32 k.val = BitVec.ofNat 32 k.val := by decide +kernel

/-- The guard of a part holds on the trips below its number of windows. -/
theorem guard_lit : ∀ k n : Fin 32, Scalar.cmpi .ne (Scalar.extui (Scalar.cmpi .slt (BitVec.ofNat 32 k.val) (BitVec.ofNat 32 n.val)) : BitVec 32) 0#32 = 1#1 ↔ k.val < n.val := by
  decide +kernel

/-- A window begins forty rows after the one before. -/
theorem off_lit (s k : ℕ) (hs : s < 1024) (hk : k < 32) :
    (Scalar.indexCast (Scalar.addi (BitVec.ofNat 32 s) (Scalar.muli (BitVec.ofNat 32 k) 40#32)) : Index).toNat = s + 40 * k := by
  show (BitVec.ofNat 32 s + BitVec.ofNat 32 k * 40#32).toNat = _
  simp only [BitVec.toNat_add, BitVec.toNat_mul, BitVec.toNat_ofNat]
  omega

section

variable (s0 s1 l0 l1 : ℕ) (h0 : s0 ≤ l0) (h1 : s1 ≤ l1) (g0 : l0 < 1024) (g1 : l1 < 1024)

/-- The windows a part needs for ids from `s` to `l`. -/
abbrev win (s l : ℕ) : ℕ := (l - s) / 40 + 1

include h0 h1 g0 g1 in
/-- The step's loop runs as far as the longer part needs. -/
theorem loop_eq : k0_t1_loop (BitVec.ofNat 32 s0) (BitVec.ofNat 32 s1) (BitVec.ofNat 32 l0) (BitVec.ofNat 32 l1)
    = ⟨0#32, BitVec.ofNat 32 (max (win s0 l0) (win s1 l1)), 1#32⟩ := by
  show (⟨0#32, Scalar.addi 0#32 (Scalar.muli (Scalar.divsi (Scalar.subi (Scalar.maxsi (nWin (Scalar.subi (BitVec.ofNat 32 l0) (BitVec.ofNat 32 s0))) (nWin (Scalar.subi (BitVec.ofNat 32 l1) (BitVec.ofNat 32 s1)))) 0#32) 1#32) 1#32), 1#32⟩ : Scf.Loop 32) = _
  rw [nWin_sub l0 s0 h0 g0, nWin_sub l1 s1 h1 g1]
  rw [ub_eq ⟨win s0 l0, by unfold win; omega⟩ ⟨win s1 l1, by unfold win; omega⟩]

include h0 h1 g0 g1 in
/-- The trips of a step: the windows the longer part needs. -/
theorem trips_eq : (k0_t1_loop (BitVec.ofNat 32 s0) (BitVec.ofNat 32 s1) (BitVec.ofNat 32 l0) (BitVec.ofNat 32 l1)).trips
    = max (win s0 l0) (win s1 l1) := by
  rw [loop_eq s0 s1 l0 l1 h0 h1 g0 g1]
  exact trips_lit ⟨max (win s0 l0) (win s1 l1), by unfold win; omega⟩

variable (k : Fin (k0_t1_loop (BitVec.ofNat 32 s0) (BitVec.ofNat 32 s1) (BitVec.ofNat 32 l0) (BitVec.ofNat 32 l1)).trips)

include h0 h1 g0 g1 in
/-- A step has at most 27 trips. -/
theorem k_lt : k.val < 27 := by
  have := lt_of_lt_of_eq k.isLt (trips_eq s0 s1 l0 l1 h0 h1 g0 g1)
  unfold win at this; omega

include h0 h1 g0 g1 in
/-- Part 0 has a window on trip `k`. -/
theorem cond2_iff : k0_cond2 (BitVec.ofNat 32 s0) (BitVec.ofNat 32 s1) (BitVec.ofNat 32 l0) (BitVec.ofNat 32 l1) k = 1#1 ↔ k.val < win s0 l0 := by
  have hk := k_lt s0 s1 l0 l1 h0 h1 g0 g1 k
  show Scalar.cmpi .ne (Scalar.extui (Scalar.cmpi .slt (Scf.iv 0#32 1#32 k.val) (nWin (Scalar.subi (BitVec.ofNat 32 l0) (BitVec.ofNat 32 s0)))) : BitVec 32) 0#32 = 1#1 ↔ _
  rw [nWin_sub l0 s0 h0 g0, iv_lit ⟨k.val, by omega⟩]
  exact guard_lit ⟨k.val, by omega⟩ ⟨win s0 l0, by unfold win; omega⟩

include h0 h1 g0 g1 in
/-- Part 1 has a window on trip `k`. -/
theorem cond3_iff : k0_cond3 (BitVec.ofNat 32 s0) (BitVec.ofNat 32 s1) (BitVec.ofNat 32 l0) (BitVec.ofNat 32 l1) k = 1#1 ↔ k.val < win s1 l1 := by
  have hk := k_lt s0 s1 l0 l1 h0 h1 g0 g1 k
  show Scalar.cmpi .ne (Scalar.extui (Scalar.cmpi .slt (Scf.iv 0#32 1#32 k.val) (nWin (Scalar.subi (BitVec.ofNat 32 l1) (BitVec.ofNat 32 s1)))) : BitVec 32) 0#32 = 1#1 ↔ _
  rw [nWin_sub l1 s1 h1 g1, iv_lit ⟨k.val, by omega⟩]
  exact guard_lit ⟨k.val, by omega⟩ ⟨win s1 l1, by unfold win; omega⟩

include h0 h1 g0 g1 in
/-- Part 0's window begins at row `s0 + 40 k`. -/
theorem off3_eq : k0_off3 (BitVec.ofNat 32 s0) (BitVec.ofNat 32 s1) (BitVec.ofNat 32 l0) (BitVec.ofNat 32 l1) k = ![s0 + 40 * k.val, 0] := by
  have hk := k_lt s0 s1 l0 l1 h0 h1 g0 g1 k
  show ![(Scalar.indexCast (Scalar.addi (BitVec.ofNat 32 s0) (Scalar.muli (Scf.iv 0#32 1#32 k.val) 40#32)) : Index).toNat, 0] = _
  rw [iv_lit ⟨k.val, by omega⟩, off_lit s0 k.val (by omega) (by omega)]
include h0 h1 g0 g1 in
/-- Part 0's window begins at row `s0 + 40 k`, in the accumulator too. -/
theorem off4_eq : k0_off4 (BitVec.ofNat 32 s0) (BitVec.ofNat 32 s1) (BitVec.ofNat 32 l0) (BitVec.ofNat 32 l1) k = ![s0 + 40 * k.val, 0] :=
  (show k0_off4 _ _ _ _ k = k0_off3 _ _ _ _ k from rfl).trans (off3_eq s0 s1 l0 l1 h0 h1 g0 g1 k)
include h0 h1 g0 g1 in
/-- Part 1's window begins at row `s1 + 40 k`. -/
theorem off5_eq : k0_off5 (BitVec.ofNat 32 s0) (BitVec.ofNat 32 s1) (BitVec.ofNat 32 l0) (BitVec.ofNat 32 l1) k = ![s1 + 40 * k.val, 0] := by
  have hk := k_lt s0 s1 l0 l1 h0 h1 g0 g1 k
  show ![(Scalar.indexCast (Scalar.addi (BitVec.ofNat 32 s1) (Scalar.muli (Scf.iv 0#32 1#32 k.val) 40#32)) : Index).toNat, 0] = _
  rw [iv_lit ⟨k.val, by omega⟩, off_lit s1 k.val (by omega) (by omega)]
include h0 h1 g0 g1 in
/-- Part 1's window begins at row `s1 + 40 k`, in the accumulator too. -/
theorem off6_eq : k0_off6 (BitVec.ofNat 32 s0) (BitVec.ofNat 32 s1) (BitVec.ofNat 32 l0) (BitVec.ofNat 32 l1) k = ![s1 + 40 * k.val, 0] :=
  (show k0_off6 _ _ _ _ k = k0_off5 _ _ _ _ k from rfl).trans (off5_eq s0 s1 l0 l1 h0 h1 g0 g1 k)

/-- A loop from zero by ones to a small bound is well formed. -/
theorem ok_lit : ∀ n : Fin 32, (⟨0#32, BitVec.ofNat 32 n.val, 1#32⟩ : Scf.Loop 32).OK := by
  intro n
  have hn := n.isLt
  exact Affine.ok (Affine.ofNat 0 ⟨rfl, by decide⟩) (Affine.ofNat n.val ⟨rfl, by omega⟩) (Affine.ofNat 1 ⟨rfl, by decide⟩) ⟨by decide, by omega⟩

/-- The remainder loop has no trip. -/
theorem t2_no (v39 v42 v45 v67 : BitVec 32) (j : Fin (k0_t2_loop v39 v42 v45 v67).trips) : False :=
  Scf.rem_no_trip _ _ j

include h0 h1 g0 g1 in
/-- The windows of a step lie inside the running buffers, and its loops run. -/
theorem chk_ok : k0_chk1 (BitVec.ofNat 32 s0) (BitVec.ofNat 32 s1) (BitVec.ofNat 32 l0) (BitVec.ofNat 32 l1) := by
  refine ⟨?_, fun k hk a => ?_, fun k hk a => ?_, fun k hk a => ?_, fun k hk a => ?_, ?_, fun j => (t2_no _ _ _ _ j).elim, fun j => (t2_no _ _ _ _ j).elim, fun j => (t2_no _ _ _ _ j).elim, fun j => (t2_no _ _ _ _ j).elim⟩
  · rw [loop_eq s0 s1 l0 l1 h0 h1 g0 g1]
    exact ok_lit ⟨max (win s0 l0) (win s1 l1), by unfold win; omega⟩
  · have h := (cond2_iff s0 s1 l0 l1 h0 h1 g0 g1 k).mp hk
    unfold win at h
    rw [off3_eq s0 s1 l0 l1 h0 h1 g0 g1 k]
    fin_cases a
    · show s0 + 40 * k.val + 40 ≤ 1104; omega
    · show 0 + 1 ≤ 1; omega
  · have h := (cond2_iff s0 s1 l0 l1 h0 h1 g0 g1 k).mp hk
    unfold win at h
    rw [off4_eq s0 s1 l0 l1 h0 h1 g0 g1 k]
    fin_cases a
    · show s0 + 40 * k.val + 40 ≤ 1104; omega
    · show 0 + 128 ≤ 128; omega
  · have h := (cond3_iff s0 s1 l0 l1 h0 h1 g0 g1 k).mp hk
    unfold win at h
    rw [off5_eq s0 s1 l0 l1 h0 h1 g0 g1 k]
    fin_cases a
    · show s1 + 40 * k.val + 40 ≤ 1104; omega
    · show 0 + 1 ≤ 1; omega
  · have h := (cond3_iff s0 s1 l0 l1 h0 h1 g0 g1 k).mp hk
    unfold win at h
    rw [off6_eq s0 s1 l0 l1 h0 h1 g0 g1 k]
    fin_cases a
    · show s1 + 40 * k.val + 40 ≤ 1104; omega
    · show 0 + 128 ≤ 128; omega
  · exact Scf.rem_ok _ _

end

end Cert.KernelIdeal.Hand

end
-- ==== Proof.Host.lean ====
module

public import proofs.«01_k».proof.Proof.Words
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (c : Dev nD)

/-! ## What the host operations hand the kernel -/

/-- The segment id of row `n`. -/
abbrev bat (n : Fin 320000) : BitVec 32 := (m ((c : Thread nD τ).loc main_arg1) : IVec S320000 32) (ix1 n)

/-- Row `r` of block `b`. -/
abbrev rowOf (b : Fin 40) (r : Fin 8000) : Fin 320000 := ⟨b.val * 8000 + r.val, by omega⟩

/-- The ids are below 1024 and do not decrease. -/
structure PreOK : Prop where
  lt : ∀ n, (bat m c n).toNat < 1024
  mono : ∀ a b : Fin 320000, a ≤ b → (bat m c a).toNat ≤ (bat m c b).toNat

/-- The ids the kernel is handed are the argument, cut into blocks. -/
theorem V_ids_eq : V m c main_v0 = (shapeCast S40x1x8000 (m ((c : Thread nD τ).loc main_arg1) : IVec S320000 32) shapeCasts_S320000_S40x1x8000 : IVec S40x1x8000 32) := by
  simp only [V, hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The first layer's bias the kernel is handed is the argument, as one row. -/
theorem V_b1_eq : V m c main_v11 = (shapeCast S1x128 (m ((c : Thread nD τ).loc main_arg3) : FVec F S128 .f32) shapeCasts_S128_S1x128 : FVec F S1x128 .f32) := by
  simp only [V, hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The ids block by block. -/
abbrev idsV : IVec S40x1x8000 32 := shapeCast S40x1x8000 (m ((c : Thread nD τ).loc main_arg1) : IVec S320000 32) shapeCasts_S320000_S40x1x8000
/-- The blocks' first ids. -/
abbrev firstV : IVec S40 32 := shapeCast S40 (extractStridedSlice S40x1x1 ![0, 0, 0] (idsV m c) slices_S40x1x8000_S40x1x1_0_0_0) shapeCasts_S40x1x1_S40
/-- The blocks' last ids. -/
abbrev lastV : IVec S40 32 := shapeCast S40 (extractStridedSlice S40x1x1 ![0, 0, 7999] (idsV m c) slices_S40x1x8000_S40x1x1_0_0_7999) shapeCasts_S40x1x1_S40
/-- A table of words, each rounded down to a multiple of eight. -/
abbrev downV (x : IVec S40 32) : IVec S40 32 :=
  muli (select (andi (cmpi .ne (signi x) (broadcastInDim S40 ![] bcast_S_S40 (signi (id (constantI S_ 32 8#32)))))
      (cmpi .ne (Host.remsi x (broadcastInDim S40 ![] bcast_S_S40 (id (constantI S_ 32 8#32)))) (broadcastInDim S40 ![] bcast_S_S40 (constantI S_ 32 0#32))))
    (subi (Host.divsi x (broadcastInDim S40 ![] bcast_S_S40 (id (constantI S_ 32 8#32)))) (broadcastInDim S40 ![] bcast_S_S40 (constantI S_ 32 1#32)))
    (Host.divsi x (broadcastInDim S40 ![] bcast_S_S40 (id (constantI S_ 32 8#32)))))
  (broadcastInDim S40 ![] bcast_S_S40 (constantI S_ 32 8#32))

/-- The block table: the first ids rounded down, beside the last ids. -/
theorem V_info_eq : V m c main_v10 = (concatenate S40x2 1 [⟨S40x1, broadcastInDim S40x1 ![0] bcast_S40_S40x1_0 (downV (firstV m c))⟩,
    ⟨S40x1, broadcastInDim S40x1 ![0] bcast_S40_S40x1_0 (lastV m c)⟩] concatenates_S40x1_S40x1_S40x2_d1 : IVec S40x2 32) := by
  simp only [V, hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  refine Eq.trans (congrArg₂ (fun (a b : IVec S40x1 32) => (concatenate S40x2 1 [⟨S40x1, a⟩, ⟨S40x1, b⟩] concatenates_S40x1_S40x1_S40x2_d1 : IVec S40x2 32)) (?h8 : _ = ?a) (?h9 : _ = ?b)) ?_
  case h8 => after_results_simp; rfl
  case h9 => after_results_simp; rfl
  rfl

/-- The ids laid out block by block. -/
theorem idsV_apply (b : Fin 40) (z : Fin 1) (r : Fin 8000) : idsV m c (ix3 b z r) = bat m c (rowOf b r) := by
  refine shapeCast_apply _ _ _ (ix1 (rowOf b r)) ?_
  simp only [Shape.rowMajor_val_one, Shape.rowMajor_val_three]
  show b.val * 8000 + r.val = (b.val * 1 + z.val) * 8000 + r.val
  omega

/-- Id `r` of block `b` is the id of the block's row `r`. -/
theorem V_ids (b : Fin 40) (z : Fin 1) (r : Fin 8000) : (V m c main_v0 : IVec S40x1x8000 32) (ix3 b z r) = bat m c (rowOf b r) := by
  rw [V_ids_eq]
  exact idsV_apply m c b z r

/-- A block's first id. -/
theorem firstV_apply (b : Fin 40) : firstV m c (ix1 b) = bat m c (rowOf b 0) := by
  refine (shapeCast_apply _ _ _ (ix3 b 0 0) ?_).trans ((extractStridedSlice_apply _ _ _ _ (ix3 b 0 0) ?_).trans (idsV_apply m c b 0 0))
  · simp only [Shape.rowMajor_val_one, Shape.rowMajor_val_three]
    show (b.val * 1 + 0) * 1 + 0 = b.val
    omega
  · intro a
    fin_cases a <;> first | rfl | exact (Nat.zero_add _).symm

/-- A block's last id. -/
theorem lastV_apply (b : Fin 40) : lastV m c (ix1 b) = bat m c (rowOf b 7999) := by
  refine (shapeCast_apply _ _ _ (ix3 b 0 0) ?_).trans ((extractStridedSlice_apply _ _ _ _ (ix3 b 0 7999) ?_).trans (idsV_apply m c b 0 7999))
  · simp only [Shape.rowMajor_val_one, Shape.rowMajor_val_three]
    show (b.val * 1 + 0) * 1 + 0 = b.val
    omega
  · intro a
    fin_cases a <;> first | rfl | exact (Nat.zero_add _).symm

/-- A word, divided by eight as signed numbers towards minus infinity and multiplied by eight. -/
abbrev down8 (x : BitVec 32) : BitVec 32 :=
  IntOp.muli
    (Scalar.select
      (IntOp.andi
        (IntOp.cmpi .ne (if x = 0 then 0 else if x.msb = true then -1 else 1 : BitVec 32) (if (8#32) = 0 then 0 else if (8#32).msb = true then -1 else 1 : BitVec 32))
        (IntOp.cmpi .ne (IntOp.remsi .host x 8#32) 0#32))
      (IntOp.subi (IntOp.divsi .host x 8#32) 1#32)
      (IntOp.divsi .host x 8#32))
    8#32

/-- On the words below 1024 it rounds down to a multiple of eight. -/
theorem down8_eq : ∀ d : Fin 1024, down8 (BitVec.ofNat 32 d.val) = BitVec.ofNat 32 (d.val / 8 * 8) := by decide +kernel

/-- Each block's first id, rounded down to a multiple of eight. -/
theorem V_info0 (h : PreOK m c) (b : Fin 40) : (V m c main_v10 : IVec S40x2 32) (ix2 b 0) = BitVec.ofNat 32 ((bat m c (rowOf b 0)).toNat / 8 * 8) := by
  rw [V_info_eq]
  generalize e : firstV m c = f
  have e1 : f (ix1 b) = bat m c (rowOf b 0) := e ▸ firstV_apply m c b
  rw [← e1]
  generalize lastV m c = g
  pointwise
  have e2 := down8_eq ⟨(f (ix1 b)).toNat, e1 ▸ h.lt _⟩
  simp only [BitVec.ofNat_toNat, BitVec.setWidth_eq] at e2
  exact e2

/-- Each block's last id. -/
theorem V_info1 (b : Fin 40) : (V m c main_v10 : IVec S40x2 32) (ix2 b 1) = bat m c (rowOf b 7999) := by
  rw [V_info_eq, ← lastV_apply]
  generalize lastV m c = g
  generalize downV (firstV m c) = g'
  pointwise

/-- The bias as one row. -/
theorem V_b1 (z : Fin 1) (k : Fin 128) : (V m c main_v11 : FVec F S1x128 .f32) (ix2 z k) = (m ((c : Thread nD τ).loc main_arg3) : FVec F S128 .f32) (ix1 k) := by
  rw [V_b1_eq]
  pointwise

end Cert.KernelIdeal.Hand

end
-- ==== Proof.Chk.lean ====
module

public import proofs.«01_k».proof.Proof.Host
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (c : Dev nD)

/-! ## The four words of the block table a grid point reads -/

/-- The grid has twenty points. -/
theorem point_lt (t : Fin cfg0.N) : t.val < 20 := lt_of_lt_of_eq t.isLt (by decide)

/-- The block of part 0 at point `t`. -/
abbrev blk0 (t : Fin cfg0.N) : Fin 40 := ⟨t.val, by have h := point_lt t; omega⟩
/-- The block of part 1 at point `t`. -/
abbrev blk1 (t : Fin cfg0.N) : Fin 40 := ⟨20 + t.val, by have h := point_lt t; omega⟩

/-- Where part 0's first word is read at a point. -/
theorem off1_0 : ∀ t : Fin cfg0.N, k0_off1 (grid0.coords t) 0#32 = ![t.val, 0] := by decide +kernel
/-- Where part 1's first word is read. -/
theorem off1_1 : ∀ t : Fin cfg0.N, k0_off1 (grid0.coords t) 20#32 = ![20 + t.val, 0] := by decide +kernel
/-- Where part 0's last id is read. -/
theorem off2_0 : ∀ t : Fin cfg0.N, k0_off2 (grid0.coords t) 0#32 = ![t.val, 1] := by decide +kernel
/-- Where part 1's last id is read. -/
theorem off2_1 : ∀ t : Fin cfg0.N, k0_off2 (grid0.coords t) 20#32 = ![20 + t.val, 1] := by decide +kernel

/-- A unit box of the table at the offsets `![a, b]` is the cell `(a, b)`. -/
theorem cell_eq (a : Fin 40) (b : Fin 2) {off : Fin S40x2.rank → ℕ} (e : off = ![a.val, b.val]) (inb : ∀ x, off x + S1x1.size x ≤ S40x2.size x) (y : S1x1.Idx) :
    (Rect.unit (s := S40x2) off S1x1.size inb).idx y = ix2 a b := by
  subst e
  funext x
  fin_cases x
  · refine Fin.ext ?_
    show a.val + 1 * (y 0).val = a.val
    have := (y 0).isLt
    have h : (y 0).val < 1 := this
    omega
  · refine Fin.ext ?_
    show b.val + 1 * (y 1).val = b.val
    have := (y 1).isLt
    have h : (y 1).val < 1 := this
    omega

/-- The block table is one block at every point. -/
theorem idx0 : ∀ (t : Fin cfg0.N) (a : Fin 2), win0_0.index t a = 0 := by decide +kernel

/-- The block table as the kernel sees it is the whole table. -/
theorem info_blk (t : Fin cfg0.N) (a : Fin 40) (b : Fin 2) : (iblk m c 0 t : IVec S40x2 32) (ix2 a b) = (V m c main_v10 : IVec S40x2 32) (ix2 a b) := by
  blk_ext [iblk]
  · rw [idx0 t 0]; omega
  · rw [idx0 t 1]; omega

/-- Part 0's first word: its block's first id, rounded down to a multiple of eight. -/
theorem wS0_eq (h : PreOK m c) (t : Fin cfg0.N) :
    wS0 c (grid0.coords t) (st0_0 t) (R0 m c t) = BitVec.ofNat 32 ((bat m c (rowOf (blk0 t) 0)).toNat / 8 * 8) := by
  rw [← V_info0 m c h, ← info_blk m c t]
  unfold wS0 R0
  rw [View.readAt_rep]
  exact congrArg (iblk m c 0 t : IVec S40x2 32) (cell_eq (blk0 t) 0 (off1_0 t) _ _)

/-- Part 1's first word: its block's first id, rounded down to a multiple of eight. -/
theorem wS1_eq (h : PreOK m c) (t : Fin cfg0.N) :
    wS1 c (grid0.coords t) (st0_0 t) (R0 m c t) = BitVec.ofNat 32 ((bat m c (rowOf (blk1 t) 0)).toNat / 8 * 8) := by
  rw [← V_info0 m c h, ← info_blk m c t]
  unfold wS1 R0
  rw [View.readAt_rep]
  exact congrArg (iblk m c 0 t : IVec S40x2 32) (cell_eq (blk1 t) 0 (off1_1 t) _ _)

/-- Part 0's last word: its block's last id. -/
theorem wL0_eq (t : Fin cfg0.N) :
    wL0 c (grid0.coords t) (st0_0 t) (R0 m c t) = BitVec.ofNat 32 (bat m c (rowOf (blk0 t) 7999)).toNat := by
  rw [BitVec.ofNat_toNat, BitVec.setWidth_eq, ← V_info1 m c, ← info_blk m c t]
  unfold wL0 R0
  rw [View.readAt_rep]
  exact congrArg (iblk m c 0 t : IVec S40x2 32) (cell_eq (blk0 t) 1 (off2_0 t) _ _)

/-- Part 1's last word: its block's last id. -/
theorem wL1_eq (t : Fin cfg0.N) :
    wL1 c (grid0.coords t) (st0_0 t) (R0 m c t) = BitVec.ofNat 32 (bat m c (rowOf (blk1 t) 7999)).toNat := by
  rw [BitVec.ofNat_toNat, BitVec.setWidth_eq, ← V_info1 m c, ← info_blk m c t]
  unfold wL1 R0
  rw [View.readAt_rep]
  exact congrArg (iblk m c 0 t : IVec S40x2 32) (cell_eq (blk1 t) 1 (off2_1 t) _ _)

/-- A block's first word is at most its last id. -/
theorem first_le (h : PreOK m c) (b : Fin 40) : (bat m c (rowOf b 0)).toNat / 8 * 8 ≤ (bat m c (rowOf b 7999)).toNat :=
  (Nat.div_mul_le_self _ 8).trans (h.mono _ _ (by show b.val * 8000 + 0 ≤ b.val * 8000 + 7999; omega))

/-- With sorted ids below 1024 the body's side condition holds at every point. -/
theorem chkOK (h : PreOK m c) : ChkOK m c := by
  intro t
  rw [wS0_eq m c h, wS1_eq m c h, wL0_eq, wL1_eq]
  exact chk_ok _ _ _ _ (first_le m c h _) (first_le m c h _) (h.lt _) (h.lt _)

end Cert.KernelIdeal.Hand

end
-- ==== Proof.Pre.lean ====
module

public import proofs.«01_k».proof.Proof.Chk
public import proofs.«01_k».proof.Proof.Gen.Pre_sorted_segments

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-! ## The precondition, read -/

/-- A signed word between zero and 1024 is a number below 1024. -/
theorem word_lt (w : BitVec 32) (h0 : (0#32).toInt ≤ w.toInt) (h1 : w.toInt < (1024#32).toInt) : w.toNat < 1024 := by
  have e0 : (0#32).toInt = 0 := by decide
  have e1 : (1024#32).toInt = 1024 := by decide
  rw [e0] at h0
  rw [e1] at h1
  rw [BitVec.toInt_eq_toNat_cond] at h0 h1
  have := w.isLt
  split at h0 <;> split at h1 <;> omega

/-- Words of segments are ordered as their numbers. -/
theorem word_le (v w : BitVec 32) (hv : v.toNat < 1024) (hw : w.toNat < 1024) (h : v.toInt ≤ w.toInt) : v.toNat ≤ w.toNat := by
  rw [BitVec.toInt_eq_toNat_cond, BitVec.toInt_eq_toNat_cond] at h
  split at h <;> split at h <;> omega

/-- The ids one row earlier, the first id staying. -/
abbrev beforeV (x : IVec S320000 32) : IVec S320000 32 :=
  concatenate S320000 0 [⟨Pre_sorted_segments.S1, extractStridedSlice Pre_sorted_segments.S1 ![0] x Pre_sorted_segments.Facts.slices_S320000_S1_0⟩,
    ⟨Pre_sorted_segments.S319999, extractStridedSlice Pre_sorted_segments.S319999 ![0] x Pre_sorted_segments.Facts.slices_S320000_S319999_0⟩]
    Pre_sorted_segments.Facts.concatenates_S1_S319999_S320000_d0

/-- The shifted array holds at each row the id of the row before. -/
theorem beforeV_succ (x : IVec S320000 32) (n : ℕ) (hn : n + 1 < 320000) : beforeV x (ix1 ⟨n + 1, hn⟩) = x (ix1 ⟨n, by omega⟩) := by
  refine (concatenate_pair_apply_right (t := S320000) (s₁ := Pre_sorted_segments.S1) (s₂ := Pre_sorted_segments.S319999) 0 _ _
    Pre_sorted_segments.Facts.concatenates_S1_S319999_S320000_d0 (ix1 (⟨n + 1, hn⟩ : Fin 320000)) rfl rfl (ix1 (⟨n, by omega⟩ : Fin 319999)) ?_ ?_).trans ?_
  · intro b hb
    fin_cases b
    exact absurd rfl hb
  · show n + 1 = n + 1
    rfl
  · refine extractStridedSlice_apply _ _ _ _ (ix1 (⟨n, by omega⟩ : Fin 320000)) fun a => ?_
    fin_cases a
    exact (Nat.zero_add _).symm

/-- The printed precondition says that the ids are below 1024 and do not decrease. -/
theorem preOK (m : (ℓ : Loc nD τ sig) → Buf (Elt F) ℓ) (c : Dev nD)
    (x0 : FVec F S320000x128 .f32) (x2 : FVec F S128x128 .f32) (x3 : FVec F S128 .f32) (x4 : FVec F S1x128 .f32) (x5 : FVec F S1 .f32)
    (h : Cert.Pre_sorted_segments.fn (F := F) x0 (m ((c : Thread nD τ).loc main_arg1)) x2 x3 x4 x5 = fun _ => 1#1) : PreOK m c := by
  have ha : ∀ p q : Bool, IntOp.andi (BitVec.ofBool p) (BitVec.ofBool q) = BitVec.ofBool (p && q) := by decide
  have ho : ∀ p : Bool, (BitVec.ofBool p = 1#1) ↔ p = true := by decide
  have key : ∀ n : Fin 320000, ((0#32).toInt ≤ (bat m c n).toInt ∧ (bat m c n).toInt < (1024#32).toInt)
      ∧ (beforeV (m ((c : Thread nD τ).loc main_arg1)) (ix1 n)).toInt ≤ (bat m c n).toInt := by
    intro n
    have e := congrFun h (ix1 n)
    simp only [Cert.Pre_sorted_segments.fn, andi, cmpi, broadcastInDim, constantI] at e
    simp only [IntOp.cmpi, ha, ho, Bool.and_eq_true, BitVec.sle_eq_decide, BitVec.slt_eq_decide, decide_eq_true_eq] at e
    exact e
  have lt : ∀ n, (bat m c n).toNat < 1024 := fun n => word_lt _ (key n).1.1 (key n).1.2
  have step : ∀ (n : ℕ) (hn : n + 1 < 320000), (bat m c ⟨n, by omega⟩).toNat ≤ (bat m c ⟨n + 1, hn⟩).toNat := by
    intro n hn
    have e := (key ⟨n + 1, hn⟩).2
    rw [beforeV_succ] at e
    exact word_le _ _ (lt _) (lt _) e
  refine ⟨lt, fun a b hab => ?_⟩
  obtain ⟨a, hav⟩ := a
  obtain ⟨b, hbv⟩ := b
  have hab' : a ≤ b := hab
  clear hab
  induction b with
  | zero => obtain rfl : a = 0 := by omega
            exact le_refl _
  | succ b ih =>
    rcases Nat.lt_or_ge b a with h1 | h1
    · obtain rfl : a = b + 1 := by omega
      exact le_refl _
    · exact (ih (by omega) h1).trans (step b hbv)

end Cert.KernelIdeal.Hand

end
-- ==== Proof.Twin.lean ====
module

public import proofs.«01_k».proof.Defs
public import proofs.«01_k».proof.Proof.Run
public import proofs.«01_k».proof.Proof.Pre
public import proofs.«01_k».proof.Proof.Gen.Kernel

@[expose] public section

set_option maxRecDepth 65536
set_option maxHeartbeats 8000000

noncomputable section

/-! # The printed program and its reading over the extended reals are one text

No operation was replaced, so the program printed for the bit-level reading and the one printed for the
reading over the extended reals have the same body and the same host program, whatever the floats are. -/

namespace Cert.Proof

open Cert Idealize.ShloMosaic Idealize.ShloMosaic.TcCoe Idealize.SL.Sem

section
variable {F : FTy → Type} [FloatOps F]

/-- The two kernels' bodies are the same at every grid point. -/
theorem body_eq : (fun i => Kernel.cc0__pool_kernel (F := F) i) = (fun i => KernelIdeal.cc0__pool_kernel (F := F) i) := rfl

/-- The two tables of kernel bodies are the same. -/
theorem defs₀_eq : (Kernel.defs₀ (F := F)) = (KernelIdeal.defs₀ (F := F)) := by
  unfold Kernel.defs₀ KernelIdeal.defs₀
  refine congrArg (Defs.onTc (nD := KernelIdeal.nD) (τ := KernelIdeal.τ) (sig := KernelIdeal.sig) (Val := Elt F) (Λ := KernelIdeal.Λ₀)) ?_
  funext l a
  match l, a with
  | 0, (t, s) => rfl
  | ⟨_ + 1, h⟩, _ => exact absurd h (Nat.not_lt.2 (Nat.le_add_left _ _))

/-- The two programs' tables of procedures are the same. -/
theorem defs_eq : (Kernel.defs (F := F)) = (KernelIdeal.defs (F := F)) :=
  congrArg (Pipeline.defs (KernelIdeal.pcfgs (F := F))) defs₀_eq

end

open KernelIdeal.Hand in
/-- Every run of the printed kernel ends with its arguments as they were and every semaphore at rest. -/
theorem frame_kernel : Cert.quiescent_Kernel := by
  intro m g hpre
  have key : ∀ d, d = KernelIdeal.defs (F := Bits) → ∀ post, θ_run (KernelIdeal.defs (F := Bits)) (onTc (τ := KernelIdeal.τ) (KernelIdeal.main (F := Bits))) ⟨m, fun _ => 0, g⟩ post →
      θ_run d (onTc (τ := KernelIdeal.τ) (KernelIdeal.main (F := Bits))) ⟨m, fun _ => 0, g⟩ post := by
    rintro _ rfl post h
    exact h
  exact key _ defs_eq _ (run_frame (F := Bits) m g fun c => chkOK m c (preOK m c _ _ _ _ _ (hpre c)))

open KernelIdeal.Hand in
/-- Every run of the kernel over the extended reals ends with its arguments as they were and every semaphore at rest. -/
theorem frame_ideal : Cert.quiescent_KernelIdeal := fun m g hpre =>
  run_frame (F := Ideal) m g fun c => chkOK m c (preOK m c _ _ _ _ _ (hpre c))

end Cert.Proof
-- ==== Proof.Sem.lean ====
module

public import Idealize.ShloMosaic.PureOps.Ideal

@[expose] public section

noncomputable section

namespace Cert.Pool

open Idealize.ShloMosaic

/-! # Running softmax sums over a set of rows

A row `i` has a score `g i` and a value `y i`. For a finite set `S` of rows, `top g S` is the larger of zero and the
largest score, and `wsum g y S` the sum of the values weighted by `exp (score − top)`. Both can be built up piece by
piece: `wsum_union` says how the two sums of disjoint sets combine once each is rescaled to the common maximum. -/

variable {ι : Type} [DecidableEq ι] (g : ι → EReal) (y : ι → EReal)

/-- The larger of zero and the largest score of `S`. -/
def top (S : Finset ι) : EReal := max 0 (S.sup g)

/-- The sum over `S` of the values, each weighted by the exponential of its score less `a`. -/
def psum (a : EReal) (S : Finset ι) : EReal := ∑ i ∈ S, Ideal.exp (g i - a) * y i

/-- The weighted sum over `S` relative to its own maximum. -/
def wsum (S : Finset ι) : EReal := psum g y (top g S) S

/-- The maximum is not negative. -/
theorem top_nonneg (S : Finset ι) : 0 ≤ top g S := le_max_left _ _

/-- Over no rows the maximum is zero. -/
theorem top_empty : top g ∅ = 0 := by simp [top]

/-- Over no rows the sum is zero. -/
theorem wsum_empty : wsum g y ∅ = 0 := by simp [wsum, psum]

/-- A row's score is at most the maximum. -/
theorem le_top (S : Finset ι) {i : ι} (h : i ∈ S) : g i ≤ top g S := (Finset.le_sup h).trans (le_max_right _ _)

/-- The maximum over a union is the larger of one set's maximum and the other's largest score. -/
theorem top_union (S T : Finset ι) : top g (S ∪ T) = max (top g S) (T.sup g) := by
  unfold top
  rw [Finset.sup_union, max_assoc]

/-- The maximum over a union is the larger of the two maxima. -/
theorem top_union' (S T : Finset ι) : top g (S ∪ T) = max (top g S) (top g T) := by
  unfold top
  rw [Finset.sup_union, max_max_max_comm, max_self]

/-- An exponential is not negative. -/
theorem exp_nonneg (a : EReal) : 0 ≤ Ideal.exp a := by
  induction a with
  | bot => simp
  | top => simp
  | coe r => rw [Ideal.exp_coe]; exact_mod_cast (Real.exp_pos r).le

/-- The exponential of a difference that is at most zero is finite. -/
theorem exp_ne_top {a b : EReal} (hb : 0 ≤ b) (h : a ≤ b) : Ideal.exp (a - b) ≠ ⊤ := by
  induction b with
  | bot => simp at hb
  | top => rw [EReal.sub_top]; simp
  | coe r =>
    induction a with
    | bot => rw [EReal.bot_sub]; simp
    | top => simp at h
    | coe q => rw [← EReal.coe_sub, Ideal.exp_coe]; exact EReal.coe_ne_top _

/-- Exponentials of differences multiply: a score relative to `a`, then `a` relative to a larger `b`. -/
theorem exp_mul_exp {x a b : EReal} (ha : 0 ≤ a) (hab : a ≤ b) (hx : x ≤ a) :
    Ideal.exp (x - a) * Ideal.exp (a - b) = Ideal.exp (x - b) := by
  induction b with
  | bot => exact absurd (ha.trans hab) (by simp)
  | top => rw [EReal.sub_top, EReal.sub_top]; simp
  | coe r =>
    induction a with
    | bot => simp at ha
    | top => simp at hab
    | coe q =>
      induction x with
      | bot => rw [EReal.bot_sub, EReal.bot_sub]; simp
      | top => simp at hx
      | coe p =>
        rw [← EReal.coe_sub, ← EReal.coe_sub, ← EReal.coe_sub, Ideal.exp_coe, Ideal.exp_coe, Ideal.exp_coe, ← EReal.coe_mul, ← Real.exp_add]
        congr 2
        ring

/-- A nonnegative finite factor moves into a sum. -/
theorem sum_mul_of_nonneg (S : Finset ι) (f : ι → EReal) {a : EReal} (h0 : 0 ≤ a) (h1 : a ≠ ⊤) :
    (∑ i ∈ S, f i) * a = ∑ i ∈ S, f i * a := by
  induction S using Finset.induction_on with
  | empty => simp
  | insert i S hi ih => rw [Finset.sum_insert hi, Finset.sum_insert hi, EReal.right_distrib_of_nonneg_of_ne_top h0 h1, ih]

/-- Rescaling a weighted sum to a larger maximum. -/
theorem wsum_scale (S : Finset ι) {a : EReal} (h : top g S ≤ a) : wsum g y S * Ideal.exp (top g S - a) = psum g y a S := by
  unfold wsum psum
  rw [sum_mul_of_nonneg S _ (exp_nonneg _) (exp_ne_top ((top_nonneg g S).trans h) h)]
  refine Finset.sum_congr rfl fun i hi => ?_
  rw [mul_right_comm, exp_mul_exp (top_nonneg g S) h (le_top g S hi)]

/-- The weighted sum over a disjoint union is the sum of the two. -/
theorem psum_union (a : EReal) {S T : Finset ι} (h : Disjoint S T) : psum g y a (S ∪ T) = psum g y a S + psum g y a T :=
  Finset.sum_union h

/-- One block of rows more: the old sum rescaled, plus the new rows relative to the new maximum. -/
theorem wsum_step {S T : Finset ι} (h : Disjoint S T) {a : EReal} (ha : a = top g (S ∪ T)) :
    wsum g y (S ∪ T) = wsum g y S * Ideal.exp (top g S - a) + psum g y a T := by
  subst ha
  rw [wsum_scale g y S (by rw [top_union]; exact le_max_left _ _), ← psum_union g y _ h]
  rfl

/-- Two sets merged: both sums rescaled to the common maximum. -/
theorem wsum_merge {S T : Finset ι} (h : Disjoint S T) {a : EReal} (ha : a = max (top g S) (top g T)) :
    wsum g y (S ∪ T) = wsum g y S * Ideal.exp (top g S - a) + wsum g y T * Ideal.exp (top g T - a) := by
  subst ha
  rw [wsum_scale g y S (le_max_left _ _), wsum_scale g y T (le_max_right _ _), ← psum_union g y _ h, ← top_union']
  rfl

/-- Dividing a sum by a positive number divides its terms. -/
theorem sum_div (S : Finset ι) (f : ι → EReal) {b : EReal} (hb : 0 < b) :
    Ideal.div (∑ i ∈ S, f i) b = ∑ i ∈ S, Ideal.div (f i) b := by
  have e : ∀ x, Ideal.div x b = x * b⁻¹ := fun x => by
    unfold Ideal.div
    rw [if_neg hb.ne']
  simp only [e]
  exact sum_mul_of_nonneg S f (EReal.inv_nonneg_of_nonneg hb.le) (by
    induction b with
    | bot => simp
    | top => simp
    | coe r => rw [← EReal.coe_inv]; exact EReal.coe_ne_top _)

/-- A sum of weights is not negative. -/
theorem psum_one_nonneg (a : EReal) (S : Finset ι) : 0 ≤ psum g (fun _ => 1) a S :=
  Finset.sum_nonneg fun i _ => by rw [mul_one]; exact exp_nonneg _

/-- The pooled value: each row's value times its normalised weight, summed, is the weighted sum over the sum of weights. -/
theorem pooled (S : Finset ι) {e : EReal} (he : 0 < e) :
    Ideal.div (wsum g y S) (wsum g (fun _ => 1) S + e)
      = ∑ i ∈ S, y i * Ideal.div (Ideal.exp (g i - top g S)) (wsum g (fun _ => 1) S + e) := by
  have hb : 0 < wsum g (fun _ => 1) S + e := lt_of_lt_of_le he (le_add_of_nonneg_left (psum_one_nonneg g _ S))
  rw [show wsum g y S = ∑ i ∈ S, Ideal.exp (g i - top g S) * y i from rfl, sum_div S _ hb]
  refine Finset.sum_congr rfl fun i _ => ?_
  unfold Ideal.div
  rw [if_neg hb.ne', if_neg hb.ne', mul_right_comm, mul_comm]

end Cert.Pool

end
-- ==== Proof.Pay.lean ====
module

public import proofs.«01_k».proof.Proof.Sem
public import proofs.«01_k».proof.Proof.Gen.KernelIdeal.Skeleton
public import Idealize.ShloMosaic.Lib.Pointwise
public import Idealize.ShloMosaic.PureOps.Ideal.Laws
public import Mathlib.Tactic.NormNum

@[expose] public section

set_option maxRecDepth 16384

noncomputable section

/-! # One window's arithmetic over the extended reals

The kernel's window of forty segments compares the block's eight thousand segment words with the
window's rows, and updates each row's maximum, sum of weights and weighted sum of rows. Here each
of those values is read at one row, in the terms of `Proof/Sem.lean`. -/

namespace Cert.KernelIdeal.Hand

open Cert.KernelIdeal Cert.KernelIdeal.Gen Cert.Pool
open Idealize.ShloMosaic Idealize.ShloMosaic.Tactic

/-- The pattern of minus infinity denotes the least extended real. -/
theorem ninf : Ideal.ofBits .f32 4286578688#32 = ⊥ := by simp [Ideal.ofBits, Ideal.ieee]

/-- The mask constant is at most zero. -/
theorem mask_le : Ideal.ofBits .f32 4048155338#32 ≤ 0 := by
  have h : Ideal.ofBits .f32 4048155338#32 = (((-1 : ℝ) * (2 ^ 23 + 4846282 : ℕ) * (2 : ℝ) ^ ((226 : ℤ) - 127 - 23) : ℝ) : EReal) := by
    simp [Ideal.ofBits, Ideal.ieee]
  rw [h, ← EReal.coe_zero, EReal.coe_le_coe_iff]
  have : (0 : ℝ) ≤ (2 ^ 23 + 4846282 : ℕ) * (2 : ℝ) ^ ((226 : ℤ) - 127 - 23) := by positivity
  linarith

/-- A word below 2³¹ read signed is the word read unsigned. -/
theorem toInt_small {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

section
variable (v12 : FVec Ideal S8000x128 .bf16) (v21 : FVec Ideal S1x8000 .f32) (v34 : IVec S1x8000 32)
  (w iv : BitVec 32) (mw : FVec Ideal S40x1 .f32)
  {n : Fin 8000 → ℕ} {o : ℕ}
  (hn : ∀ i, v34 (ix2 0 i) = BitVec.ofNat 32 (n i)) (hlt : ∀ i, n i < 1024)
  (hw : Scalar.addi w (Scalar.muli iv 40#32) = BitVec.ofNat 32 o) (ho : o + 40 ≤ 1104)

include hn hlt hw ho

/-- Row `r` of the window is hit by the block's row `i` exactly when `i`'s segment is `o + r`. -/
theorem pay10_pt (r : Fin 40) (i : Fin 8000) :
    k0_pay10 (F := Ideal) v34 w iv (ix2 r i) = if n i = o + r.val then 1#1 else 0#1 := by
  have hr := r.isLt
  have hi := hlt i
  have e : k0_pay10 (F := Ideal) v34 w iv (ix2 r i)
      = IntOp.cmpi .eq (v34 (ix2 0 i)) (IntOp.addi (Scalar.addi w (Scalar.muli iv 40#32)) (BitVec.ofNat 32 r.val)) := by
    pointwise [k0_pay10]
  rw [e, hn, hw]
  have e2 : IntOp.addi (BitVec.ofNat 32 o) (BitVec.ofNat 32 r.val) = BitVec.ofNat 32 (o + r.val) := by
    show BitVec.ofNat 32 o + BitVec.ofNat 32 r.val = _
    rw [BitVec.ofNat_add]
  rw [e2]
  by_cases h : n i = o + r.val
  · rw [if_pos h, h]; simp [IntOp.cmpi]
  · rw [if_neg h]
    have : BitVec.ofNat 32 (n i) ≠ BitVec.ofNat 32 (o + r.val) := by
      intro c
      have := congrArg BitVec.toNat c
      rw [BitVec.toNat_ofNat, BitVec.toNat_ofNat] at this
      omega
    show BitVec.ofBool (BitVec.ofNat 32 (n i) == BitVec.ofNat 32 (o + r.val)) = 0#1
    rw [beq_eq_false_iff_ne.2 this]; rfl

/-- A row's new maximum: the old one and the scores of the block's rows of its segment. -/
theorem pay11_pt (r : Fin 40) (h0 : 0 ≤ mw (ix2 r 0)) :
    k0_pay11 v21 v34 w iv mw (ix2 r 0)
      = max (mw (ix2 r 0)) ((Finset.univ.filter fun i => n i = o + r.val).sup fun i => v21 (ix2 0 i)) := by
  have hh := pay10_pt v34 w iv hn hlt hw ho r
  unfold k0_pay11
  generalize k0_pay10 v34 w iv = hit at hh ⊢
  pointwise
  rw [ninf]
  have e : (Finset.fold max (⊥ : EReal) (fun x => Scalar.select (hit (ix2 r x)) (v21 (ix2 0 x)) (Ideal.ofBits .f32 4048155338#32)) Finset.univ)
      = Finset.univ.sup (fun x : Fin 8000 => if n x = o + r.val then v21 (ix2 0 x) else Ideal.ofBits .f32 4048155338#32) := by
    rw [Finset.sup]
    refine Finset.fold_congr fun x _ => ?_
    rw [hh x]
    by_cases h : n x = o + r.val
    · rw [if_pos h, if_pos h]; rfl
    · rw [if_neg h, if_neg h]; rfl
  refine (congrArg (max _) e).trans ?_
  apply le_antisymm
  · refine max_le (le_max_left _ _) (Finset.sup_le fun x _ => ?_)
    by_cases h : n x = o + r.val
    · rw [if_pos h]
      exact le_max_of_le_right (Finset.le_sup (f := fun i => v21 (ix2 0 i)) (Finset.mem_filter.2 ⟨Finset.mem_univ _, h⟩))
    · rw [if_neg h]; exact le_max_of_le_left (mask_le.trans h0)
  · refine max_le (le_max_left _ _) (Finset.sup_le fun x hx => le_max_of_le_right ?_)
    have h := (Finset.mem_filter.1 hx).2
    have := Finset.le_sup (f := fun x : Fin 8000 => if n x = o + r.val then v21 (ix2 0 x) else Ideal.ofBits .f32 4048155338#32) (Finset.mem_univ x)
    simpa only [if_pos h] using this

/-- The weight the block's row `i` has in the window's row `r`: the exponential of its score less the row's new
maximum when it is of that segment, and zero when it is not. -/
theorem pay14_pt (r : Fin 40) (i : Fin 8000) :
    k0_pay14 v21 v34 w iv mw (ix2 r i)
      = if n i = o + r.val then Ideal.exp (v21 (ix2 0 i) - k0_pay11 v21 v34 w iv mw (ix2 r 0)) else 0 := by
  have hh := fun x : Fin 40 => pay10_pt v34 w iv hn hlt hw ho x i
  unfold k0_pay14
  generalize k0_pay10 v34 w iv = hit at hh ⊢
  generalize k0_pay11 v21 v34 w iv mw = mx
  pointwise
  rw [hh r, hw, hn]
  have hr := r.isLt
  have hi := hlt i
  by_cases h : n i = o + r.val
  · rw [if_pos h, if_pos h]
    have c1 : IntOp.cmpi .sge (BitVec.ofNat 32 (n i)) (BitVec.ofNat 32 o) = 1#1 := by
      have : BitVec.sle (BitVec.ofNat 32 o) (BitVec.ofNat 32 (n i)) = true := by
        rw [BitVec.sle_eq_decide, toInt_small (by omega), toInt_small (by omega)]
        exact decide_eq_true (by omega)
      simp [IntOp.cmpi, this]
    have c2 : IntOp.cmpi .slt (BitVec.ofNat 32 (n i)) (Scalar.addi (BitVec.ofNat 32 o) 40#32) = 1#1 := by
      have e : Scalar.addi (BitVec.ofNat 32 o) 40#32 = BitVec.ofNat 32 (o + 40) := by
        show BitVec.ofNat 32 o + BitVec.ofNat 32 40 = _
        rw [BitVec.ofNat_add]
      have : BitVec.slt (BitVec.ofNat 32 (n i)) (BitVec.ofNat 32 (o + 40)) = true := by
        rw [BitVec.slt_eq_decide, toInt_small (by omega), toInt_small (by omega)]
        exact decide_eq_true (by omega)
      rw [e]
      simp [IntOp.cmpi, this]
    rw [c1, c2]
    have es : (∑ x : Fin 40, Scalar.select (hit (ix2 x i)) (mx (ix2 x 0)) (0 : EReal)) = mx (ix2 r 0) := by
      rw [Finset.sum_eq_single r]
      · rw [hh r, if_pos h]; rfl
      · intro x _ hx
        rw [hh x, if_neg (fun c => hx (Fin.ext (by omega)))]; rfl
      · intro c; exact absurd (Finset.mem_univ r) c
    refine Eq.trans ?_ (congrArg (fun z => Ideal.exp (v21 (ix2 0 i) - z)) es)
    rfl
  · rw [if_neg h, if_neg h]; rfl

/-- The weights of the window's row `r`, summed. -/
theorem pay15_pt (r : Fin 40) :
    k0_pay15 v21 v34 w iv mw (ix2 r 0)
      = ∑ i ∈ Finset.univ.filter (fun i => n i = o + r.val), Ideal.exp (v21 (ix2 0 i) - k0_pay11 v21 v34 w iv mw (ix2 r 0)) := by
  have hh := pay14_pt v21 v34 w iv mw hn hlt hw ho r
  unfold k0_pay15
  generalize k0_pay14 v21 v34 w iv mw = p at hh ⊢
  pointwise
  rw [Finset.sum_filter]
  exact Finset.sum_congr rfl fun i _ => hh i

/-- The row's old sums are scaled by the exponential of the old maximum less the new. -/
theorem pay12_pt (r : Fin 40) :
    k0_pay12 v21 v34 w iv mw (ix2 r 0) = Ideal.exp (mw (ix2 r 0) - k0_pay11 v21 v34 w iv mw (ix2 r 0)) := by
  unfold k0_pay12
  generalize k0_pay11 v21 v34 w iv mw = mx
  pointwise

omit hn hlt hw ho in
/-- The maxima stored are the new maxima. -/
theorem pay13_eq (r : Fin 40) : k0_pay13 v21 v34 w iv mw (ix2 r 0) = k0_pay11 v21 v34 w iv mw (ix2 r 0) := by
  unfold k0_pay13
  generalize k0_pay11 v21 v34 w iv mw = mx
  pointwise

/-- The window's new weighted sums. -/
theorem pay2_pt (old : FVec Ideal S40x128 .f32) (r : Fin 40) (d : Fin 128) :
    k0_pay2 v12 (k0_pay12 v21 v34 w iv mw) (k0_pay14 v21 v34 w iv mw) old (ix2 r d)
      = old (ix2 r d) * Ideal.exp (mw (ix2 r 0) - k0_pay11 v21 v34 w iv mw (ix2 r 0))
        + ∑ i ∈ Finset.univ.filter (fun i => n i = o + r.val),
            Ideal.exp (v21 (ix2 0 i) - k0_pay11 v21 v34 w iv mw (ix2 r 0)) * v12 (ix2 i d) := by
  have hh := pay14_pt v21 v34 w iv mw hn hlt hw ho r
  have ha := pay12_pt v21 v34 w iv mw hn hlt hw ho r
  unfold k0_pay2
  generalize k0_pay14 v21 v34 w iv mw = p at hh ⊢
  generalize k0_pay12 v21 v34 w iv mw = a at ha ⊢
  pointwise
  rw [ha, Finset.sum_filter]
  congr 1
  refine Finset.sum_congr rfl fun i _ => ?_
  rw [hh i]
  by_cases h : n i = o + r.val
  · rw [if_pos h, if_pos h]
  · rw [if_neg h, if_neg h, zero_mul]

/-- The window's new sums of weights. -/
theorem pay1_pt (old : FVec Ideal S40x1 .f32) (r : Fin 40) :
    k0_pay1 (k0_pay12 v21 v34 w iv mw) (k0_pay15 v21 v34 w iv mw) old (ix2 r 0)
      = old (ix2 r 0) * Ideal.exp (mw (ix2 r 0) - k0_pay11 v21 v34 w iv mw (ix2 r 0))
        + ∑ i ∈ Finset.univ.filter (fun i => n i = o + r.val),
            Ideal.exp (v21 (ix2 0 i) - k0_pay11 v21 v34 w iv mw (ix2 r 0)) := by
  have hh := pay15_pt v21 v34 w iv mw hn hlt hw ho r
  have ha := pay12_pt v21 v34 w iv mw hn hlt hw ho r
  unfold k0_pay1
  generalize k0_pay15 v21 v34 w iv mw = p at hh ⊢
  generalize k0_pay12 v21 v34 w iv mw = a at ha ⊢
  pointwise
  rw [ha, hh]

end

end Cert.KernelIdeal.Hand
-- ==== Proof.Window.lean ====
module

public import proofs.«01_k».proof.Proof.Body
public import proofs.«01_k».proof.Proof.Words
public import proofs.«01_k».proof.Proof.Pay
public import Idealize.ShloMosaic.Lib.WritesUnit

@[expose] public section

set_option maxRecDepth 16384

noncomputable section

/-! # The running buffers over a step's windows

Each part's three running buffers hold, for every segment, the maximum, the sum of the weights and the weighted
sum of the rows over a set of rows. A window adds the block's rows of its forty segments to those sets, and
the windows of a step together add all of the block's rows. -/

namespace Cert.KernelIdeal.Hand

open Cert.KernelIdeal Cert.KernelIdeal.Gen Cert.Pool
open Idealize.ShloMosaic Idealize.ShloMosaic.TcCoe Idealize.ShloMosaic.Tactic

variable (c : Dev nD) (g : Fin 320000 → EReal) (x : Fin 320000 → Fin 128 → EReal)

/-- The three buffers hold, at each segment `s`, the values over the rows `P s`. -/
structure Inv (aM aL : Memref sig .tc .vmem S1104x1 .f32) (aA : Memref sig .tc .vmem S1104x128 .f32) (P : ℕ → Finset (Fin 320000))
    (M : Buf (Elt Ideal) (aM.view.loc (c : Thread nD τ))) (L : Buf (Elt Ideal) (aL.view.loc (c : Thread nD τ)))
    (A : Buf (Elt Ideal) (aA.view.loc (c : Thread nD τ))) : Prop where
  max : ∀ s : Fin 1104, aM.view.read (Elt Ideal) M (ix2 s 0) = top g (P s.val)
  sum : ∀ s : Fin 1104, aL.view.read (Elt Ideal) L (ix2 s 0) = wsum g (fun _ => 1) (P s.val)
  acc : ∀ (s : Fin 1104) (d : Fin 128), aA.view.read (Elt Ideal) A (ix2 s d) = wsum g (fun i => x i d) (P s.val)

/-- A window of a column buffer, read: its row `r` is the buffer's row `o + r`. -/
theorem readAt_col (a : Memref sig .tc .vmem S1104x1 .f32) (M : Buf (Elt Ideal) (a.view.loc (c : Thread nD τ))) {off : Fin 2 → ℕ} {o : ℕ} {W : ℕ}
    (e : off = ![o, 0]) (inb : ∀ x, off x + ![W, 1] x ≤ S1104x1.size x) (r : Fin W) (s : Fin 1104) (hs : s.val = o + r.val) :
    a.view.readAt (Elt Ideal) (Rect.unit (s := S1104x1) off ![W, 1] inb).toLoadRect M (ix2 r 0) = a.view.read (Elt Ideal) M (ix2 s 0) := by
  subst e
  rw [View.readAt_apply]
  congr 1
  funext z
  fin_cases z
  · exact Fin.ext (by show o + 1 * r.val = s.val; omega)
  · exact Fin.ext (by show 0 + 1 * 0 = 0; omega)

/-- A window of an accumulator, read: its row `r` is the buffer's row `o + r`. -/
theorem readAt_acc (a : Memref sig .tc .vmem S1104x128 .f32) (M : Buf (Elt Ideal) (a.view.loc (c : Thread nD τ))) {off : Fin 2 → ℕ} {o : ℕ} {W : ℕ}
    (e : off = ![o, 0]) (inb : ∀ x, off x + ![W, 128] x ≤ S1104x128.size x) (r : Fin W) (d : Fin 128) (s : Fin 1104) (hs : s.val = o + r.val) :
    a.view.readAt (Elt Ideal) (Rect.unit (s := S1104x128) off ![W, 128] inb).toLoadRect M (ix2 r d) = a.view.read (Elt Ideal) M (ix2 s d) := by
  subst e
  rw [View.readAt_apply]
  congr 1
  funext z
  fin_cases z
  · exact Fin.ext (by show o + 1 * r.val = s.val; omega)
  · exact Fin.ext (by show 0 + 1 * d.val = d.val; omega)

section
variable {aM aL : Memref sig .tc .vmem S1104x1 .f32} {aA : Memref sig .tc .vmem S1104x128 .f32}
  (gv : FVec Ideal S1x8000 .f32) (idv : IVec S1x8000 32) (xv : FVec Ideal S8000x128 .bf16)
  {n : Fin 8000 → ℕ} (row : Fin 8000 ↪ Fin 320000)
  (hn : ∀ i, idv (ix2 0 i) = BitVec.ofNat 32 (n i)) (hlt : ∀ i, n i < 1024)
  (hg : ∀ i, gv (ix2 0 i) = g (row i)) (hx : ∀ i d, xv (ix2 i d) = x (row i) d)

/-- The block's rows of segment `s`. -/
def hitRows (n : Fin 8000 → ℕ) (row : Fin 8000 ↪ Fin 320000) (s : ℕ) : Finset (Fin 320000) := (Finset.univ.filter fun i => n i = s).map row

/-- The rows of each segment after the windows of the rows from `o` up to `e`. -/
def upTo (n : Fin 8000 → ℕ) (row : Fin 8000 ↪ Fin 320000) (P : ℕ → Finset (Fin 320000)) (o e : ℕ) (s : ℕ) : Finset (Fin 320000) :=
  if o ≤ s ∧ s < e then P s ∪ hitRows n row s else P s

include hn hlt hg hx

/-- ONE WINDOW adds the block's rows of its forty segments. -/
theorem window_step {w iv : BitVec 32} {o : ℕ} (hw : Scalar.addi w (Scalar.muli iv 40#32) = BitVec.ofNat 32 o) (ho : o + 40 ≤ 1104)
    {offM offA : Fin 2 → ℕ} (eM : offM = ![o, 0]) (eA : offA = ![o, 0])
    (inbM : ∀ z, offM z + S40x1.size z ≤ S1104x1.size z) (inbA : ∀ z, offA z + S40x128.size z ≤ S1104x128.size z)
    {M : Buf (Elt Ideal) (aM.view.loc (c : Thread nD τ))} {L : Buf (Elt Ideal) (aL.view.loc (c : Thread nD τ))} {A : Buf (Elt Ideal) (aA.view.loc (c : Thread nD τ))}
    {P Q : ℕ → Finset (Fin 320000)} (hdisj : ∀ s, o ≤ s → s < o + 40 → Disjoint (P s) (hitRows n row s))
    (hQ : ∀ s, Q s = if o ≤ s ∧ s < o + 40 then P s ∪ hitRows n row s else P s)
    (inv : Inv c g x aM aL aA P M L A) :
    Inv c g x aM aL aA Q
      (aM.view.writes (Elt Ideal) M [⟨Rect.unit (s := S1104x1) offM S40x1.size inbM,
        k0_pay13 gv idv w iv (aM.view.readAt (Elt Ideal) (Rect.unit (s := S1104x1) offM S40x1.size inbM).toLoadRect M)⟩])
      (aL.view.writes (Elt Ideal) L [⟨Rect.unit (s := S1104x1) offM S40x1.size inbM,
        k0_pay1 (k0_pay12 gv idv w iv (aM.view.readAt (Elt Ideal) (Rect.unit (s := S1104x1) offM S40x1.size inbM).toLoadRect M))
          (k0_pay15 gv idv w iv (aM.view.readAt (Elt Ideal) (Rect.unit (s := S1104x1) offM S40x1.size inbM).toLoadRect M))
          (aL.view.readAt (Elt Ideal) (Rect.unit (s := S1104x1) offM S40x1.size inbM).toLoadRect L)⟩])
      (aA.view.writes (Elt Ideal) A [⟨Rect.unit (s := S1104x128) offA S40x128.size inbA,
        k0_pay2 xv (k0_pay12 gv idv w iv (aM.view.readAt (Elt Ideal) (Rect.unit (s := S1104x1) offM S40x1.size inbM).toLoadRect M))
          (k0_pay14 gv idv w iv (aM.view.readAt (Elt Ideal) (Rect.unit (s := S1104x1) offM S40x1.size inbM).toLoadRect M))
          (aA.view.readAt (Elt Ideal) (Rect.unit (s := S1104x128) offA S40x128.size inbA).toLoadRect A)⟩]) := by
  have hm : ∀ (r : Fin 40) (s : Fin 1104), s.val = o + r.val →
      (aM.view.readAt (Elt Ideal) (Rect.unit (s := S1104x1) offM S40x1.size inbM).toLoadRect M : FVec Ideal S40x1 .f32) (ix2 r 0) = top g (P s.val) :=
    fun r s hs => (readAt_col c aM M eM inbM r s hs).trans (inv.max s)
  generalize hmw : (aM.view.readAt (Elt Ideal) (Rect.unit (s := S1104x1) offM S40x1.size inbM).toLoadRect M : FVec Ideal S40x1 .f32) = mw at hm ⊢
  have hsup : ∀ s : ℕ, ((Finset.univ.filter fun i => n i = s).sup fun i => gv (ix2 0 i)) = (hitRows n row s).sup g := fun s => by
    unfold hitRows
    rw [Finset.sup_map]
    exact Finset.sup_congr rfl fun i _ => hg i
  have htop : ∀ (r : Fin 40) (s : Fin 1104), s.val = o + r.val → k0_pay11 gv idv w iv mw (ix2 r 0) = top g (P s.val ∪ hitRows n row s.val) := fun r s hs => by
    rw [pay11_pt gv idv w iv mw hn hlt hw ho r (by rw [hm r s hs]; exact top_nonneg g _), hm r s hs, ← hs, hsup, top_union]
  have hQin : ∀ (r : Fin 40) (s : Fin 1104), s.val = o + r.val → Q s.val = P s.val ∪ hitRows n row s.val := fun r s hs => by
    rw [hQ, if_pos ⟨by omega, by have := r.isLt; omega⟩]
  have hQout : ∀ s : Fin 1104, ¬ (o ≤ s.val ∧ s.val < o + 40) → Q s.val = P s.val := fun s hs => by rw [hQ, if_neg hs]
  refine ⟨fun s => ?_, fun s => ?_, fun s d => ?_⟩
  · by_cases hs : o ≤ s.val ∧ s.val < o + 40
    · have hr : s.val = o + (⟨s.val - o, by omega⟩ : Fin 40).val := by show s.val = o + (s.val - o); omega
      refine (View.read_writes_cons_rows_of_mem _ _ inbM _ _ (ix2 s 0) (ix2 (⟨s.val - o, by omega⟩ : Fin 40) 0) eM hr rfl).trans ?_
      rw [hQin _ s hr]
      exact (pay13_eq gv idv w iv mw _).trans (htop _ s hr)
    · refine (View.read_writes_cons_rows_of_not_mem _ _ inbM _ _ (ix2 s 0) eM (W := 40) rfl (by show s.val < o ∨ o + 40 ≤ s.val; omega)).trans ?_
      rw [hQout s hs]
      exact inv.max s
  · by_cases hs : o ≤ s.val ∧ s.val < o + 40
    · have hr : s.val = o + (⟨s.val - o, by omega⟩ : Fin 40).val := by show s.val = o + (s.val - o); omega
      refine (View.read_writes_cons_rows_of_mem _ _ inbM _ _ (ix2 s 0) (ix2 (⟨s.val - o, by omega⟩ : Fin 40) 0) eM hr rfl).trans ?_
      refine (pay1_pt gv idv w iv mw hn hlt hw ho _ _).trans ?_
      rw [hQin _ s hr, htop _ s hr, hm _ s hr, wsum_step g _ (hdisj s.val hs.1 hs.2) rfl,
        (readAt_col c aL L eM inbM _ s hr).trans (inv.sum s), ← hr]
      congr 1
      unfold psum hitRows
      rw [Finset.sum_map]
      exact Finset.sum_congr rfl fun i _ => by rw [hg i, mul_one]
    · refine (View.read_writes_cons_rows_of_not_mem _ _ inbM _ _ (ix2 s 0) eM (W := 40) rfl (by show s.val < o ∨ o + 40 ≤ s.val; omega)).trans ?_
      rw [hQout s hs]
      exact inv.sum s
  · by_cases hs : o ≤ s.val ∧ s.val < o + 40
    · have hr : s.val = o + (⟨s.val - o, by omega⟩ : Fin 40).val := by show s.val = o + (s.val - o); omega
      refine (View.read_writes_cons_rows_of_mem _ _ inbA _ _ (ix2 s d) (ix2 (⟨s.val - o, by omega⟩ : Fin 40) d) eA hr rfl).trans ?_
      refine (pay2_pt xv gv idv w iv mw hn hlt hw ho _ _ d).trans ?_
      rw [hQin _ s hr, htop _ s hr, hm _ s hr, wsum_step g _ (hdisj s.val hs.1 hs.2) rfl,
        (readAt_acc c aA A eA inbA _ d s hr).trans (inv.acc s d), ← hr]
      congr 1
      unfold psum hitRows
      rw [Finset.sum_map]
      exact Finset.sum_congr rfl fun i _ => by rw [hg i, hx i d]
    · refine (View.read_writes_cons_rows_of_not_mem _ _ inbA _ _ (ix2 s d) eA (W := 40) rfl (by show s.val < o ∨ o + 40 ≤ s.val; omega)).trans ?_
      rw [hQout s hs]
      exact inv.acc s d

omit hn hlt hg hx in
/-- ONE WINDOW of a step whose windows begin at `s0`: the rows up to `s0 + 40 k` become the rows up to `s0 + 40 (k + 1)`. -/
theorem upTo_succ (P : ℕ → Finset (Fin 320000)) (s0 k : ℕ) (s : ℕ) :
    upTo n row P s0 (s0 + 40 * (k + 1)) s
      = if s0 + 40 * k ≤ s ∧ s < s0 + 40 * k + 40 then upTo n row P s0 (s0 + 40 * k) s ∪ hitRows n row s else upTo n row P s0 (s0 + 40 * k) s := by
  unfold upTo
  by_cases h1 : s0 + 40 * k ≤ s ∧ s < s0 + 40 * k + 40
  · rw [if_pos h1, if_pos (by omega), if_neg (by omega)]
  · rw [if_neg h1]
    by_cases h2 : s0 ≤ s ∧ s < s0 + 40 * k
    · rw [if_pos h2, if_pos (by omega)]
    · rw [if_neg h2, if_neg (by omega)]

omit hn hlt hg hx in
/-- No window done, nothing added. -/
theorem upTo_zero (P : ℕ → Finset (Fin 320000)) (s0 : ℕ) : upTo n row P s0 (s0 + 40 * 0) = P := by
  funext s
  unfold upTo
  rw [if_neg (by omega)]

omit hn hlt hg hx in
/-- All windows done, every row of the block is added. -/
theorem upTo_all (P : ℕ → Finset (Fin 320000)) {s0 e : ℕ} (hlo : ∀ i, s0 ≤ n i) (hhi : ∀ i, n i < e) :
    upTo n row P s0 e = fun s => P s ∪ hitRows n row s := by
  funext s
  unfold upTo
  by_cases h : s0 ≤ s ∧ s < e
  · rw [if_pos h]
  · rw [if_neg h]
    have : hitRows n row s = ∅ := by
      unfold hitRows
      rw [Finset.map_eq_empty, Finset.filter_eq_empty_iff]
      intro i _ hi
      have := hlo i
      have := hhi i
      omega
    rw [this, Finset.union_empty]

omit hn hlt hg hx in
/-- A window's start, as the kernel computes it. -/
theorem start_eq (s0 k : ℕ) (hk : k < 32) : Scalar.addi (BitVec.ofNat 32 s0) (Scalar.muli (Scf.iv 0#32 1#32 k) 40#32) = BitVec.ofNat 32 (s0 + 40 * k) := by
  rw [iv_lit ⟨k, hk⟩]
  show BitVec.ofNat 32 s0 + BitVec.ofNat 32 k * BitVec.ofNat 32 40 = _
  rw [BitVec.ofNat_add, BitVec.ofNat_mul, BitVec.mul_comm]

variable {v39 v42 v45 v67 : BitVec 32} (k0_hw1 : k0_chk1 v39 v42 v45 v67)
  {s0 s1 l0 l1 : ℕ} (h0 : s0 ≤ l0) (h1 : s1 ≤ l1) (g0 : l0 < 1024) (g1 : l1 < 1024)
  (e39 : v39 = BitVec.ofNat 32 s0) (e42 : v42 = BitVec.ofNat 32 s1) (e45 : v45 = BitVec.ofNat 32 l0) (e67 : v67 = BitVec.ofNat 32 l1)
  {M : Buf (Elt Ideal) (aM.view.loc (c : Thread nD τ))} {L : Buf (Elt Ideal) (aL.view.loc (c : Thread nD τ))} {A : Buf (Elt Ideal) (aA.view.loc (c : Thread nD τ))}
  {P : ℕ → Finset (Fin 320000)} (hdisj : ∀ s, Disjoint (P s) (hitRows n row s))

omit hn hlt hg hx in
include hdisj in
/-- The rows of a window are new to its segments. -/
theorem disj_upTo (k : ℕ) (s : ℕ) (hs : s0 + 40 * k ≤ s) : Disjoint (upTo n row P s0 (s0 + 40 * k) s) (hitRows n row s) := by
  unfold upTo
  rw [if_neg (by omega)]
  exact hdisj s

include h0 h1 g0 g1 e39 e42 e45 e67 hdisj

/-- Part 0's buffers after the windows of a step hold the values over the rows before and the block's. -/
theorem loop0 (hlo : ∀ i, s0 ≤ n i) (hhi : ∀ i, n i ≤ l0) (inv : Inv c g x aM aL aA P M L A) :
    Inv c g x aM aL aA (fun s => P s ∪ hitRows n row s)
      (accM0 c aM gv idv v39 v42 v45 v67 k0_hw1 M (k0_t1_loop v39 v42 v45 v67).trips)
      (accL0 c aM aL gv idv v39 v42 v45 v67 k0_hw1 M L (k0_t1_loop v39 v42 v45 v67).trips)
      (accA0 c aA aM xv gv idv v39 v42 v45 v67 k0_hw1 M A (k0_t1_loop v39 v42 v45 v67).trips) := by
  subst e39 e42 e45 e67
  have hT := trips_eq s0 s1 l0 l1 h0 h1 g0 g1
  have main : ∀ k, k ≤ (k0_t1_loop (BitVec.ofNat 32 s0) (BitVec.ofNat 32 s1) (BitVec.ofNat 32 l0) (BitVec.ofNat 32 l1)).trips →
      Inv c g x aM aL aA (upTo n row P s0 (s0 + 40 * min k (win s0 l0))) (accM0 c aM gv idv _ _ _ _ k0_hw1 M k) (accL0 c aM aL gv idv _ _ _ _ k0_hw1 M L k)
        (accA0 c aA aM xv gv idv _ _ _ _ k0_hw1 M A k) := by
    intro k
    induction k with
    | zero => intro _; rw [Nat.zero_min, upTo_zero]; exact inv
    | succ k ih =>
      intro hk
      have ih := ih (by omega)
      have hk' : k < (k0_t1_loop (BitVec.ofNat 32 s0) (BitVec.ofNat 32 s1) (BitVec.ofNat 32 l0) (BitVec.ofNat 32 l1)).trips := hk
      have hk27 : k < 27 := k_lt s0 s1 l0 l1 h0 h1 g0 g1 ⟨k, hk'⟩
      rw [accM0, accL0, accA0, dif_pos hk', dif_pos hk', dif_pos hk']
      unfold nextM0 nextL0 nextA0
      have hc := cond2_iff s0 s1 l0 l1 h0 h1 g0 g1 ⟨k, hk'⟩
      by_cases h : k0_cond2 (BitVec.ofNat 32 s0) (BitVec.ofNat 32 s1) (BitVec.ofNat 32 l0) (BitVec.ofNat 32 l1) ⟨k, hk'⟩ = 1#1
      · have hw := hc.mp h
        change k < win s0 l0 at hw
        rw [dif_pos h, dif_pos h, dif_pos h, Nat.min_eq_left (show k + 1 ≤ win s0 l0 from hw)]
        rw [Nat.min_eq_left hw.le] at ih
        exact window_step c g x gv idv xv row hn hlt hg hx (start_eq s0 k (by omega)) (by unfold win at hw; omega)
          (off3_eq s0 s1 l0 l1 h0 h1 g0 g1 ⟨k, hk'⟩) (off4_eq s0 s1 l0 l1 h0 h1 g0 g1 ⟨k, hk'⟩) _ _
          (fun s hs _ => disj_upTo row hdisj k s hs) (fun s => upTo_succ row P s0 k s) ih
      · have hw := fun q => h (hc.mpr q)
        change ¬ k < win s0 l0 at hw
        rw [dif_neg h, dif_neg h, dif_neg h, Nat.min_eq_right (show win s0 l0 ≤ k + 1 by omega)]
        rw [Nat.min_eq_right (show win s0 l0 ≤ k by omega)] at ih
        exact ih
  have := main _ le_rfl
  rwa [Nat.min_eq_right (by rw [hT]; exact le_max_left _ _), upTo_all row P hlo (fun i => by have := hhi i; unfold win; omega)] at this

/-- Part 1's buffers likewise. -/
theorem loop1 (hlo : ∀ i, s1 ≤ n i) (hhi : ∀ i, n i ≤ l1) (inv : Inv c g x aM aL aA P M L A) :
    Inv c g x aM aL aA (fun s => P s ∪ hitRows n row s)
      (accM1 c aM gv idv v39 v42 v45 v67 k0_hw1 M (k0_t1_loop v39 v42 v45 v67).trips)
      (accL1 c aM aL gv idv v39 v42 v45 v67 k0_hw1 M L (k0_t1_loop v39 v42 v45 v67).trips)
      (accA1 c aA aM xv gv idv v39 v42 v45 v67 k0_hw1 M A (k0_t1_loop v39 v42 v45 v67).trips) := by
  subst e39 e42 e45 e67
  have hT := trips_eq s0 s1 l0 l1 h0 h1 g0 g1
  have main : ∀ k, k ≤ (k0_t1_loop (BitVec.ofNat 32 s0) (BitVec.ofNat 32 s1) (BitVec.ofNat 32 l0) (BitVec.ofNat 32 l1)).trips →
      Inv c g x aM aL aA (upTo n row P s1 (s1 + 40 * min k (win s1 l1))) (accM1 c aM gv idv _ _ _ _ k0_hw1 M k) (accL1 c aM aL gv idv _ _ _ _ k0_hw1 M L k)
        (accA1 c aA aM xv gv idv _ _ _ _ k0_hw1 M A k) := by
    intro k
    induction k with
    | zero => intro _; rw [Nat.zero_min, upTo_zero]; exact inv
    | succ k ih =>
      intro hk
      have ih := ih (by omega)
      have hk' : k < (k0_t1_loop (BitVec.ofNat 32 s0) (BitVec.ofNat 32 s1) (BitVec.ofNat 32 l0) (BitVec.ofNat 32 l1)).trips := hk
      have hk27 : k < 27 := k_lt s0 s1 l0 l1 h0 h1 g0 g1 ⟨k, hk'⟩
      rw [accM1, accL1, accA1, dif_pos hk', dif_pos hk', dif_pos hk']
      unfold nextM1 nextL1 nextA1
      have hc := cond3_iff s0 s1 l0 l1 h0 h1 g0 g1 ⟨k, hk'⟩
      by_cases h : k0_cond3 (BitVec.ofNat 32 s0) (BitVec.ofNat 32 s1) (BitVec.ofNat 32 l0) (BitVec.ofNat 32 l1) ⟨k, hk'⟩ = 1#1
      · have hw := hc.mp h
        change k < win s1 l1 at hw
        rw [dif_pos h, dif_pos h, dif_pos h, Nat.min_eq_left (show k + 1 ≤ win s1 l1 from hw)]
        rw [Nat.min_eq_left hw.le] at ih
        exact window_step c g x gv idv xv row hn hlt hg hx (start_eq s1 k (by omega)) (by unfold win at hw; omega)
          (off5_eq s0 s1 l0 l1 h0 h1 g0 g1 ⟨k, hk'⟩) (off6_eq s0 s1 l0 l1 h0 h1 g0 g1 ⟨k, hk'⟩) _ _
          (fun s hs _ => disj_upTo row hdisj k s hs) (fun s => upTo_succ row P s1 k s) ih
      · have hw := fun q => h (hc.mpr q)
        change ¬ k < win s1 l1 at hw
        rw [dif_neg h, dif_neg h, dif_neg h, Nat.min_eq_right (show win s1 l1 ≤ k + 1 by omega)]
        rw [Nat.min_eq_right (show win s1 l1 ≤ k by omega)] at ih
        exact ih
  have := main _ le_rfl
  rwa [Nat.min_eq_right (by rw [hT]; exact le_max_right _ _), upTo_all row P hlo (fun i => by have := hhi i; unfold win; omega)] at this

end

end Cert.KernelIdeal.Hand
-- ==== Proof.Point.lean ====
module

public import proofs.«01_k».proof.Proof.Chk
public import proofs.«01_k».proof.Proof.Window

@[expose] public section

set_option maxRecDepth 16384

noncomputable section

/-! # The running buffers over the grid points

After `t` points the buffers of each part hold the maximum, the sum of weights and the weighted sum of rows of every
segment over the rows of the part's first `t` blocks. -/

namespace Cert.KernelIdeal.Hand

open Cert.KernelIdeal Cert.KernelIdeal.Gen Cert.Pool
open Idealize.ShloMosaic Idealize.ShloMosaic.TcCoe Idealize.ShloMosaic.Tactic

variable (m : (ℓ : Loc nD τ sig) → Buf (Elt Ideal) ℓ) (c : Dev nD)

/-- Feature `d` of row `i`. -/
abbrev xAt (i : Fin 320000) (d : Fin 128) : EReal := (m ((c : Thread nD τ).loc main_arg0) : FVec Ideal S320000x128 .f32) (ix2 i d)
/-- The first layer's weights. -/
abbrev w1At (j k : Fin 128) : EReal := (m ((c : Thread nD τ).loc main_arg2) : FVec Ideal S128x128 .f32) (ix2 j k)
/-- The first layer's bias. -/
abbrev b1At (j : Fin 128) : EReal := (m ((c : Thread nD τ).loc main_arg3) : FVec Ideal S128 .f32) (ix1 j)
/-- The second layer's weights. -/
abbrev w2At (j : Fin 128) : EReal := (m ((c : Thread nD τ).loc main_arg4) : FVec Ideal S1x128 .f32) (ix2 0 j)
/-- The second layer's bias. -/
abbrev b2At : EReal := (m ((c : Thread nD τ).loc main_arg5) : FVec Ideal S1 .f32) (ix1 0)

/-- The gate score of row `i`: the second layer of the first layer's positive part. -/
def gate (i : Fin 320000) : EReal := (∑ j, w2At m c j * max ((∑ k, xAt m c i k * w1At m c j k) + b1At m c j) 0) + b2At m c

/-- The segment of row `i`. -/
abbrev seg (i : Fin 320000) : ℕ := (bat m c i).toNat

/-- A block's rows are distinct. -/
theorem rowOf_inj (b : Fin 40) : Function.Injective (rowOf b) := fun r r' h => by
  have := congrArg Fin.val h
  exact Fin.ext (by show r.val = r'.val; change b.val * 8000 + r.val = b.val * 8000 + r'.val at this; omega)

/-- The rows of block `b`, embedded in the array's. -/
def rowEmb (b : Fin 40) : Fin 8000 ↪ Fin 320000 := ⟨rowOf b, rowOf_inj b⟩

/-- The rows of segment `s` among those from `a` up to `e`. -/
def between (a e : ℕ) (s : ℕ) : Finset (Fin 320000) := Finset.univ.filter fun i => (a ≤ i.val ∧ i.val < e) ∧ seg m c i = s

/-- A block's rows of a segment follow the rows of the blocks before. -/
theorem between_succ (a : ℕ) (b : Fin 40) (h : a ≤ b.val * 8000) (s : ℕ) :
    between m c a (b.val * 8000) s ∪ hitRows (fun r => seg m c (rowOf b r)) (rowEmb b) s = between m c a ((b.val + 1) * 8000) s := by
  ext i
  simp only [between, hitRows, Finset.mem_union, Finset.mem_filter, Finset.mem_univ, true_and, Finset.mem_map]
  constructor
  · rintro (⟨⟨h1, h2⟩, h3⟩ | ⟨r, hr, rfl⟩)
    · exact ⟨⟨h1, by omega⟩, h3⟩
    · exact ⟨⟨by show a ≤ b.val * 8000 + r.val; omega, by show b.val * 8000 + r.val < _; have := r.isLt; omega⟩, hr⟩
  · rintro ⟨⟨h1, h2⟩, h3⟩
    by_cases hi : i.val < b.val * 8000
    · exact Or.inl ⟨⟨h1, hi⟩, h3⟩
    · have e : rowOf b ⟨i.val - b.val * 8000, by omega⟩ = i := Fin.ext (by show b.val * 8000 + (i.val - b.val * 8000) = i.val; omega)
      exact Or.inr ⟨⟨i.val - b.val * 8000, by omega⟩, by rw [e]; exact h3, e⟩

/-- A segment's rows before a block and inside it are disjoint. -/
theorem between_disj (a : ℕ) (b : Fin 40) (s : ℕ) :
    Disjoint (between m c a (b.val * 8000) s) (hitRows (fun r => seg m c (rowOf b r)) (rowEmb b) s) := by
  rw [Finset.disjoint_left]
  intro i h1 h2
  simp only [between, hitRows, Finset.mem_filter, Finset.mem_univ, true_and, Finset.mem_map] at h1 h2
  obtain ⟨r, _, rfl⟩ := h2
  have := h1.1.2
  change b.val * 8000 + r.val < b.val * 8000 at this
  omega

/-! ## The blocks a point reads -/

/-- Which block of operand 1 a point has. -/
theorem idx1 : ∀ (t : Fin cfg0.N) (a : Fin 1), win0_1.index t a = 0 := by decide +kernel
/-- Which block of operand 2 a point has. -/
theorem idx2 : ∀ (t : Fin cfg0.N) (a : Fin 3), win0_2.index t a = ![t.val, 0, 0] a := by decide +kernel
/-- Which block of operand 3 a point has. -/
theorem idx3 : ∀ (t : Fin cfg0.N) (a : Fin 3), win0_3.index t a = ![20 + t.val, 0, 0] a := by decide +kernel
/-- Which block of operand 4 a point has. -/
theorem idx4 : ∀ (t : Fin cfg0.N) (a : Fin 2), win0_4.index t a = ![t.val, 0] a := by decide +kernel
/-- Which block of operand 5 a point has. -/
theorem idx5 : ∀ (t : Fin cfg0.N) (a : Fin 2), win0_5.index t a = ![20 + t.val, 0] a := by decide +kernel
/-- Which block of operand 6 a point has. -/
theorem idx6 : ∀ (t : Fin cfg0.N) (a : Fin 2), win0_6.index t a = 0 := by decide +kernel
/-- Which block of operand 7 a point has. -/
theorem idx7 : ∀ (t : Fin cfg0.N) (a : Fin 2), win0_7.index t a = 0 := by decide +kernel
/-- Which block of operand 8 a point has. -/
theorem idx8 : ∀ (t : Fin cfg0.N) (a : Fin 2), win0_8.index t a = 0 := by decide +kernel

/-- Part 0's block of ids. -/
theorem ids_blk0 (t : Fin cfg0.N) (z z' : Fin 1) (r : Fin 8000) : (iblk m c 2 t : IVec S1x1x8000 32) (ix3 z z' r) = bat m c (rowOf (blk0 t) r) := by
  rw [← V_ids m c (blk0 t) z' r]
  blk_ext [iblk]
  · rw [idx2 t 0]; first | rfl | (show t.val * 1 + z.val = t.val; omega)
  · rw [idx2 t 1]; first | rfl | (show 0 * 1 + z'.val = z'.val; omega)
  · rw [idx2 t 2]; first | rfl | (show 0 * 8000 + r.val = r.val; omega)

/-- Part 1's block of ids. -/
theorem ids_blk1 (t : Fin cfg0.N) (z z' : Fin 1) (r : Fin 8000) : (iblk m c 3 t : IVec S1x1x8000 32) (ix3 z z' r) = bat m c (rowOf (blk1 t) r) := by
  rw [← V_ids m c (blk1 t) z' r]
  blk_ext [iblk]
  · rw [idx3 t 0]; first | rfl | (show (20 + t.val) * 1 + z.val = 20 + t.val; omega)
  · rw [idx3 t 1]; first | rfl | (show 0 * 1 + z'.val = z'.val; omega)
  · rw [idx3 t 2]; first | rfl | (show 0 * 8000 + r.val = r.val; omega)

/-- Part 0's block of rows. -/
theorem x_blk0 (t : Fin cfg0.N) (r : Fin 8000) (d : Fin 128) : (iblk m c 4 t : FVec Ideal S8000x128 .f32) (ix2 r d) = xAt m c (rowOf (blk0 t) r) d := by
  rw [xAt, ← V_main_arg0 m c]
  blk_ext [iblk]
  · rw [idx4 t 0]; show t.val * 8000 + r.val = t.val * 8000 + r.val; omega
  · rw [idx4 t 1]; show 0 * 128 + d.val = d.val; omega

/-- Part 1's block of rows. -/
theorem x_blk1 (t : Fin cfg0.N) (r : Fin 8000) (d : Fin 128) : (iblk m c 5 t : FVec Ideal S8000x128 .f32) (ix2 r d) = xAt m c (rowOf (blk1 t) r) d := by
  rw [xAt, ← V_main_arg0 m c]
  blk_ext [iblk]
  · rw [idx5 t 0]; show (20 + t.val) * 8000 + r.val = (20 + t.val) * 8000 + r.val; omega
  · rw [idx5 t 1]; show 0 * 128 + d.val = d.val; omega

/-- The first layer's weights at a point. -/
theorem w1_blk (t : Fin cfg0.N) (j k : Fin 128) : (iblk m c 6 t : FVec Ideal S128x128 .f32) (ix2 j k) = w1At m c j k := by
  rw [w1At, ← V_main_arg2 m c]
  blk_ext [iblk]
  · rw [idx6 t 0]; first | done | omega
  · rw [idx6 t 1]; first | done | omega

/-- The first layer's bias at a point. -/
theorem b1_blk (t : Fin cfg0.N) (j : Fin 128) : (iblk m c 7 t : FVec Ideal S1x128 .f32) (ix2 0 j) = b1At m c j := by
  rw [b1At, ← V_b1 m c 0 j]
  blk_ext [iblk]
  · rw [idx7 t 0]; first | done | omega
  · rw [idx7 t 1]; first | done | omega

/-- The second layer's weights at a point. -/
theorem w2_blk (t : Fin cfg0.N) (j : Fin 128) : (iblk m c 8 t : FVec Ideal S1x128 .f32) (ix2 0 j) = w2At m c j := by
  rw [w2At, ← V_main_arg4 m c]
  blk_ext [iblk]
  · rw [idx8 t 0]; first | done | omega
  · rw [idx8 t 1]; first | done | omega

/-- The second layer's bias at a point. -/
theorem b2_blk (t : Fin cfg0.N) (z : Fin 1) : (iblk m c 1 t : FVec Ideal S1 .f32) (ix1 z) = b2At m c := by
  rw [b2At, ← V_main_arg5 m c]
  blk_ext [iblk]
  · rw [idx1 t 0]

end Cert.KernelIdeal.Hand
-- ==== Proof.Points.lean ====
module

public import proofs.«01_k».proof.Proof.Point

@[expose] public section

set_option maxRecDepth 16384

noncomputable section

namespace Cert.KernelIdeal.Hand

open Cert.KernelIdeal Cert.KernelIdeal.Gen Cert.Pool
open Idealize.ShloMosaic Idealize.ShloMosaic.TcCoe Idealize.ShloMosaic.Tactic

/-- The gate scores the kernel computes for a block of rows. -/
theorem pay44_pt (w1 : FVec Ideal S128x128 .f32) (w2 b1 : FVec Ideal S1x128 .f32) (b2 : EReal) (xb : FVec Ideal S8000x128 .f32) (i : Fin 8000) :
    k0_pay44 (F := Ideal) w1 w2 b1 b2 xb (ix2 0 i)
      = (∑ j, w2 (ix2 0 j) * max ((∑ k, xb (ix2 i k) * w1 (ix2 j k)) + b1 (ix2 0 j)) 0) + b2 := by
  unfold k0_pay44 k0_pay43 k0_pay42 k0_pay41 k0_pay40
  pointwise

/-- The two parts compute their scores alike. -/
theorem pay46_eq (w1 : FVec Ideal S128x128 .f32) (w2 b1 : FVec Ideal S1x128 .f32) (b2 : EReal) (xb : FVec Ideal S8000x128 .f32) :
    k0_pay46 (F := Ideal) w1 w2 b1 b2 xb = k0_pay44 (F := Ideal) w1 w2 b1 b2 xb := rfl

/-- Part 0's rows, narrowed, are the rows. -/
theorem pay43_pt (xb : FVec Ideal S8000x128 .f32) (i : Fin 8000) (d : Fin 128) : k0_pay43 (F := Ideal) xb (ix2 i d) = xb (ix2 i d) := rfl
/-- Part 1's rows, narrowed, are the rows. -/
theorem pay45_pt (xb : FVec Ideal S8000x128 .f32) (i : Fin 8000) (d : Fin 128) : k0_pay45 (F := Ideal) xb (ix2 i d) = xb (ix2 i d) := rfl

/-- Part 0's ids as one row. -/
theorem pay47_pt (v : IVec S1x1x8000 32) (i : Fin 8000) : k0_pay47 (F := Ideal) v (ix2 0 i) = v (ix3 0 0 i) := by
  unfold k0_pay47
  pointwise

/-- Part 1's ids as one row. -/
theorem pay48_pt (v : IVec S1x1x8000 32) (i : Fin 8000) : k0_pay48 (F := Ideal) v (ix2 0 i) = v (ix3 0 0 i) := by
  unfold k0_pay48
  pointwise

/-- The accumulators begin at zero. -/
theorem zeros_acc (s : Fin 1104) (d : Fin 128) : (k0_pay34 : FVec Ideal S1104x128 .f32) (ix2 s d) = 0 ∧ (k0_pay37 : FVec Ideal S1104x128 .f32) (ix2 s d) = 0 := by
  constructor
  · unfold k0_pay34; pointwise
  · unfold k0_pay37; pointwise

/-- The maxima and the sums begin at zero. -/
theorem zeros_col (s : Fin 1104) : ((k0_pay35 : FVec Ideal S1104x1 .f32) (ix2 s 0) = 0 ∧ (k0_pay38 : FVec Ideal S1104x1 .f32) (ix2 s 0) = 0)
    ∧ (k0_pay36 : FVec Ideal S1104x1 .f32) (ix2 s 0) = 0 ∧ (k0_pay39 : FVec Ideal S1104x1 .f32) (ix2 s 0) = 0 := by
  refine ⟨⟨?_, ?_⟩, ?_, ?_⟩
  · unfold k0_pay35; pointwise
  · unfold k0_pay38; pointwise
  · unfold k0_pay36; pointwise
  · unfold k0_pay39; pointwise

variable (m : (ℓ : Loc nD τ sig) → Buf (Elt Ideal) ℓ) (c : Dev nD)

/-- A part's buffers hold the values over the rows between `a` and `e`. -/
abbrev Held (aM aL : Memref sig .tc .vmem S1104x1 .f32) (aA : Memref sig .tc .vmem S1104x128 .f32) (a e : ℕ)
    (M : Buf (Elt Ideal) (aM.view.loc (c : Thread nD τ))) (L : Buf (Elt Ideal) (aL.view.loc (c : Thread nD τ)))
    (A : Buf (Elt Ideal) (aA.view.loc (c : Thread nD τ))) : Prop :=
  Inv c (gate m c) (xAt m c) aM aL aA (fun s => between m c a e s) M L A

/-- The sets of rows may be named another way. -/
theorem Inv.of_eq {g : Fin 320000 → EReal} {x : Fin 320000 → Fin 128 → EReal} {aM aL : Memref sig .tc .vmem S1104x1 .f32} {aA : Memref sig .tc .vmem S1104x128 .f32}
    {P Q : ℕ → Finset (Fin 320000)} {M : Buf (Elt Ideal) (aM.view.loc (c : Thread nD τ))} {L : Buf (Elt Ideal) (aL.view.loc (c : Thread nD τ))}
    {A : Buf (Elt Ideal) (aA.view.loc (c : Thread nD τ))} (i : Inv c g x aM aL aA P M L A) (e : ∀ s, P s = Q s) : Inv c g x aM aL aA Q M L A :=
  (funext e : P = Q) ▸ i

/-- No row lies between a row and itself. -/
theorem between_empty (a s : ℕ) : between m c a a s = ∅ := by
  unfold between
  rw [Finset.filter_eq_empty_iff]
  intro i _ h
  omega

/-- Zeroed buffers hold the values over no rows. -/
theorem held_zero (aM aL : Memref sig .tc .vmem S1104x1 .f32) (aA : Memref sig .tc .vmem S1104x128 .f32) (a : ℕ)
    {pM pL : FVec Ideal S1104x1 .f32} {pA : FVec Ideal S1104x128 .f32} (hM : ∀ s : Fin 1104, pM (ix2 s 0) = 0) (hL : ∀ s : Fin 1104, pL (ix2 s 0) = 0)
    (hA : ∀ (s : Fin 1104) (d : Fin 128), pA (ix2 s d) = 0) : Held m c aM aL aA a a (zeroM c aM pM) (zeroM c aL pL) (zeroA c aA pA) where
  max s := by
    rw [between_empty, top_empty, ← hM s]
    exact congrFun (View.read_writes_full (Val := Elt Ideal) aM.view _ inb_S1104x1_S1104x1_0_0 pM []) _
  sum s := by
    rw [between_empty, wsum_empty, ← hL s]
    exact congrFun (View.read_writes_full (Val := Elt Ideal) aL.view _ inb_S1104x1_S1104x1_0_0 pL []) _
  acc s d := by
    rw [between_empty, wsum_empty, ← hA s d]
    exact congrFun (View.read_writes_full (Val := Elt Ideal) aA.view _ inb_S1104x128_S1104x128_0_0 pA []) _

/-- The scores of part 0's block at point `t`. -/
theorem dG0_pt (t : Fin cfg0.N) (i : Fin 8000) :
    dG0 c (st0_1 t) (st0_4 t) (st0_6 t) (st0_7 t) (st0_8 t) (R1 m c t) (R4 m c t) (R6 m c t) (R7 m c t) (R8 m c t) (ix2 0 i) = gate m c (rowOf (blk0 t) i) := by
  unfold dG0 R1 R4 R6 R7 R8
  rw [pay44_pt, View.readAt_rep_full, View.readAt_rep_full, View.readAt_rep_full, View.readAt_rep_full, View.readAt_rep_full]
  unfold gate
  simp only [w2_blk, w1_blk, b1_blk, x_blk0]
  rw [show (Shape.Idx.first (by decide) : S1.Idx) = ix1 0 from by decide, b2_blk]

/-- The scores of part 1's block at point `t`. -/
theorem dG1_pt (t : Fin cfg0.N) (i : Fin 8000) :
    dG1 c (st0_1 t) (st0_5 t) (st0_6 t) (st0_7 t) (st0_8 t) (R1 m c t) (R5 m c t) (R6 m c t) (R7 m c t) (R8 m c t) (ix2 0 i) = gate m c (rowOf (blk1 t) i) := by
  unfold dG1 R1 R5 R6 R7 R8
  rw [pay46_eq, pay44_pt, View.readAt_rep_full, View.readAt_rep_full, View.readAt_rep_full, View.readAt_rep_full, View.readAt_rep_full]
  unfold gate
  simp only [w2_blk, w1_blk, b1_blk, x_blk1]
  rw [show (Shape.Idx.first (by decide) : S1.Idx) = ix1 0 from by decide, b2_blk]

/-- The ids part 0's loop reads. -/
theorem dI0_pt (t : Fin cfg0.N) (i : Fin 8000) : dI0 c (st0_2 t) (R2 m c t) (ix2 0 i) = BitVec.ofNat 32 (seg m c (rowOf (blk0 t) i)) := by
  unfold dI0 R2
  rw [pay47_pt, View.readAt_rep_full, ids_blk0, BitVec.ofNat_toNat, BitVec.setWidth_eq]

/-- The ids part 1's loop reads. -/
theorem dI1_pt (t : Fin cfg0.N) (i : Fin 8000) : dI1 c (st0_3 t) (R3 m c t) (ix2 0 i) = BitVec.ofNat 32 (seg m c (rowOf (blk1 t) i)) := by
  unfold dI1 R3
  rw [pay48_pt, View.readAt_rep_full, ids_blk1, BitVec.ofNat_toNat, BitVec.setWidth_eq]

/-- The rows part 0's loop reads. -/
theorem dX0_pt (t : Fin cfg0.N) (i : Fin 8000) (d : Fin 128) : dX0 c (st0_4 t) (R4 m c t) (ix2 i d) = xAt m c (rowOf (blk0 t) i) d := by
  unfold dX0 R4
  rw [pay43_pt, View.readAt_rep_full, x_blk0]

/-- The rows part 1's loop reads. -/
theorem dX1_pt (t : Fin cfg0.N) (i : Fin 8000) (d : Fin 128) : dX1 c (st0_5 t) (R5 m c t) (ix2 i d) = xAt m c (rowOf (blk1 t) i) d := by
  unfold dX1 R5
  rw [pay45_pt, View.readAt_rep_full, x_blk1]

/-- A block's ids lie between the words the kernel reads for it. -/
theorem ids_ge (h : PreOK m c) (b : Fin 40) (i : Fin 8000) : (bat m c (rowOf b 0)).toNat / 8 * 8 ≤ seg m c (rowOf b i) :=
  (Nat.div_mul_le_self _ 8).trans (h.mono _ _ (by show b.val * 8000 + 0 ≤ b.val * 8000 + i.val; omega))

/-- A block's ids are at most its last. -/
theorem ids_le (h : PreOK m c) (b : Fin 40) (i : Fin 8000) : seg m c (rowOf b i) ≤ (bat m c (rowOf b 7999)).toNat :=
  h.mono _ _ (by have := i.isLt; show b.val * 8000 + i.val ≤ b.val * 8000 + 7999; omega)

variable (h : PreOK m c) (hk : ChkOK m c)
include h

/-- One point of part 0: the block's rows are added. -/
theorem held_step0 (t : Fin cfg0.N) (s : St Ideal c) (ih : Held m c sM0 sL0 sA0 0 (t.val * 8000) s.m0 s.l0 s.a0) :
    Held m c sM0 sL0 sA0 0 ((t.val + 1) * 8000) (stepSt m c hk t s).m0 (stepSt m c hk t s).l0 (stepSt m c hk t s).a0 := by
  have := loop0 c (gate m c) (xAt m c)
    (dG0 c (st0_1 t) (st0_4 t) (st0_6 t) (st0_7 t) (st0_8 t) (R1 m c t) (R4 m c t) (R6 m c t) (R7 m c t) (R8 m c t))
    (dI0 c (st0_2 t) (R2 m c t)) (dX0 c (st0_4 t) (R4 m c t)) (rowEmb (blk0 t)) (n := fun r => seg m c (rowOf (blk0 t) r))
    (dI0_pt m c t) (fun i => h.lt _) (dG0_pt m c t) (dX0_pt m c t) (hk t)
    (first_le m c h (blk0 t)) (first_le m c h (blk1 t)) (h.lt _) (h.lt _)
    (wS0_eq m c h t) (wS1_eq m c h t) (wL0_eq m c t) (wL1_eq m c t)
    (fun s => between_disj m c 0 (blk0 t) s) (ids_ge m c h _) (ids_le m c h _) ih
  have this := this.of_eq c (Q := fun s => between m c 0 ((t.val + 1) * 8000) s) fun s => between_succ m c 0 (blk0 t) (Nat.zero_le _) s
  unfold stepSt
  dsimp only
  exact this

/-- One point of part 1. -/
theorem held_step1 (t : Fin cfg0.N) (s : St Ideal c) (ih : Held m c sM1 sL1 sA1 160000 ((20 + t.val) * 8000) s.m1 s.l1 s.a1) :
    Held m c sM1 sL1 sA1 160000 ((20 + t.val + 1) * 8000) (stepSt m c hk t s).m1 (stepSt m c hk t s).l1 (stepSt m c hk t s).a1 := by
  have := loop1 c (gate m c) (xAt m c)
    (dG1 c (st0_1 t) (st0_5 t) (st0_6 t) (st0_7 t) (st0_8 t) (R1 m c t) (R5 m c t) (R6 m c t) (R7 m c t) (R8 m c t))
    (dI1 c (st0_3 t) (R3 m c t)) (dX1 c (st0_5 t) (R5 m c t)) (rowEmb (blk1 t)) (n := fun r => seg m c (rowOf (blk1 t) r))
    (dI1_pt m c t) (fun i => h.lt _) (dG1_pt m c t) (dX1_pt m c t) (hk t)
    (first_le m c h (blk0 t)) (first_le m c h (blk1 t)) (h.lt _) (h.lt _)
    (wS0_eq m c h t) (wS1_eq m c h t) (wL0_eq m c t) (wL1_eq m c t)
    (fun s => between_disj m c 160000 (blk1 t) s) (ids_ge m c h _) (ids_le m c h _) ih
  have this := this.of_eq c (Q := fun s => between m c 160000 ((20 + t.val + 1) * 8000) s) fun s => between_succ m c 160000 (blk1 t) (by show 160000 ≤ (20 + t.val) * 8000; omega) s
  unfold stepSt
  dsimp only
  exact this

/-- After `n` points each part's buffers hold the values over its first `n` blocks. -/
theorem held_stAt (n : ℕ) (hn : n ≤ cfg0.N) :
    Held m c sM0 sL0 sA0 0 (n * 8000) (stAt m c hk n).m0 (stAt m c hk n).l0 (stAt m c hk n).a0
      ∧ Held m c sM1 sL1 sA1 160000 ((20 + n) * 8000) (stAt m c hk n).m1 (stAt m c hk n).l1 (stAt m c hk n).a1 := by
  induction n with
  | zero =>
    exact ⟨held_zero m c sM0 sL0 sA0 0 (fun s => (zeros_col s).1.1) (fun s => (zeros_col s).2.1) fun s d => (zeros_acc s d).1,
      held_zero m c sM1 sL1 sA1 160000 (fun s => (zeros_col s).1.2) (fun s => (zeros_col s).2.2) fun s d => (zeros_acc s d).2⟩
  | succ n ih =>
    have ih := ih (by omega)
    have e := stAt_succ m c hk ⟨n, hn⟩
    change stAt m c hk (n + 1) = stepSt m c hk ⟨n, hn⟩ (stAt m c hk n) at e
    rw [e]
    exact ⟨held_step0 m c h hk ⟨n, hn⟩ _ ih.1, held_step1 m c h hk ⟨n, hn⟩ _ ih.2⟩

end Cert.KernelIdeal.Hand
-- ==== Proof.Final.lean ====
module

public import proofs.«01_k».proof.Proof.Points

@[expose] public section

set_option maxRecDepth 16384

noncomputable section

/-! # The kernel's result

The last point merges the two parts and divides: the stored block holds each segment's pooled values. -/

namespace Cert.KernelIdeal.Hand

open Cert.KernelIdeal Cert.KernelIdeal.Gen Cert.Pool
open Idealize.ShloMosaic Idealize.ShloMosaic.TcCoe Idealize.ShloMosaic.Tactic

/-- The constant the sum of weights is offset by. -/
abbrev eps : EReal := Ideal.ofBits .f32 0x3089705F#32

/-- That constant is positive. -/
theorem eps_pos : 0 < eps := by
  unfold eps
  simp [Ideal.ofBits, Ideal.ieee]
  exact EReal.mul_pos (EReal.coe_pos.2 (by norm_num)) (EReal.coe_pos.2 (by norm_num))

/-- The stored value at segment `s`, feature `d`. -/
theorem pay9_pt (m0 m1 : FVec Ideal S1024x1 .f32) (a0 : FVec Ideal S1024x128 .f32) (l0 : FVec Ideal S1024x1 .f32) (a1 : FVec Ideal S1024x128 .f32)
    (l1 : FVec Ideal S1024x1 .f32) (s : Fin 1024) (d : Fin 128) :
    k0_pay9 (F := Ideal) m0 m1 a0 l0 a1 l1 (ix2 s d)
      = Ideal.div (a0 (ix2 s d) * Ideal.exp (m0 (ix2 s 0) - max (m0 (ix2 s 0)) (m1 (ix2 s 0))) + a1 (ix2 s d) * Ideal.exp (m1 (ix2 s 0) - max (m0 (ix2 s 0)) (m1 (ix2 s 0))))
          (l0 (ix2 s 0) * Ideal.exp (m0 (ix2 s 0) - max (m0 (ix2 s 0)) (m1 (ix2 s 0))) + l1 (ix2 s 0) * Ideal.exp (m1 (ix2 s 0) - max (m0 (ix2 s 0)) (m1 (ix2 s 0))) + eps) := by
  unfold k0_pay9
  pointwise

variable (m : (ℓ : Loc nD τ sig) → Buf (Elt Ideal) ℓ) (c : Dev nD) (h : PreOK m c) (hk : ChkOK m c)

/-- The rows of segment `s`. -/
def rows (s : ℕ) : Finset (Fin 320000) := Finset.univ.filter fun i => seg m c i = s

/-- A segment's rows in the two halves are all its rows. -/
theorem rows_eq (s : ℕ) : between m c 0 160000 s ∪ between m c 160000 320000 s = rows m c s := by
  ext i
  have := i.isLt
  simp only [between, rows, Finset.mem_union, Finset.mem_filter, Finset.mem_univ, true_and]
  constructor
  · rintro (⟨_, h⟩ | ⟨_, h⟩) <;> exact h
  · intro h
    rcases Nat.lt_or_ge i.val 160000 with h' | h'
    · exact Or.inl ⟨⟨Nat.zero_le _, h'⟩, h⟩
    · exact Or.inr ⟨⟨h', this⟩, h⟩

/-- A segment's rows in the two halves are disjoint. -/
theorem halves_disj (s : ℕ) : Disjoint (between m c 0 160000 s) (between m c 160000 320000 s) := by
  rw [Finset.disjoint_left]
  intro i h1 h2
  simp only [between, Finset.mem_filter, Finset.mem_univ, true_and] at h1 h2
  omega

/-- Each segment's pooled value, as a sum over its rows of the value times its normalised weight. -/
def pool (s : ℕ) (d : Fin 128) : EReal :=
  ∑ i ∈ rows m c s, xAt m c i d * Ideal.div (Ideal.exp (gate m c i - top (gate m c) (rows m c s))) (wsum (gate m c) (fun _ => 1) (rows m c s) + eps)

include h in
/-- The kernel's result is the pooled values. -/
theorem outPay_pt (s : Fin 1024) (d : Fin 128) : outPay c (stAt m c hk cfg0.N) (ix2 s d) = pool m c s.val d := by
  have hN : cfg0.N = 20 := by decide
  obtain ⟨i0, i1⟩ := held_stAt m c h hk cfg0.N le_rfl
  rw [hN] at i0 i1 ⊢
  change Held m c sM0 sL0 sA0 0 160000 _ _ _ at i0
  change Held m c sM1 sL1 sA1 160000 320000 _ _ _ at i1
  unfold outPay
  rw [pay9_pt]
  have hs : (⟨s.val, by omega⟩ : Fin 1104).val = 0 + s.val := (Nat.zero_add _).symm
  rw [readAt_col c sM0 _ rfl _ s ⟨s.val, by omega⟩ hs, readAt_col c sM1 _ rfl _ s ⟨s.val, by omega⟩ hs,
    readAt_col c sL0 _ rfl _ s ⟨s.val, by omega⟩ hs, readAt_col c sL1 _ rfl _ s ⟨s.val, by omega⟩ hs,
    readAt_acc c sA0 _ rfl _ s d ⟨s.val, by omega⟩ hs, readAt_acc c sA1 _ rfl _ s d ⟨s.val, by omega⟩ hs]
  rw [i0.max, i1.max, i0.sum, i1.sum, i0.acc, i1.acc]
  rw [← wsum_merge (gate m c) (fun i => xAt m c i d) (halves_disj m c s.val) rfl, ← wsum_merge (gate m c) (fun _ => 1) (halves_disj m c s.val) rfl, rows_eq]
  exact pooled (gate m c) (fun i => xAt m c i d) (rows m c s.val) eps_pos

end Cert.KernelIdeal.Hand
-- ==== Proof.Scatter.lean ====
module

public import proofs.«01_k».proof.Proof.Gen.ReferenceIdeal.Run
public import proofs.«01_k».proof.Proof.Sem
public import Idealize.ShloMosaic.Lib.Routing.OpsPair
public import Idealize.ShloMosaic.Lib.StableHlo.Predicate
public import Idealize.ShloMosaic.Lib.Pointwise

@[expose] public section

set_option maxRecDepth 16384

noncomputable section

/-! # The reference's scatters and takes

Each of them read at one element, for ids already known to lie in the table. -/

namespace Cert.ReferenceIdeal.Hand

open Cert.ReferenceIdeal Cert.ReferenceIdeal.Gen Cert.Pool
open Idealize.ShloMosaic Idealize.ShloMosaic.TcCoe Idealize.ShloMosaic.Tactic

/-- A vector of updates lands in a vector at the words read signed. -/
theorem lands1 (idx : IVec S320000x1 32) (i : Fin 320000) (s : Fin 1024) :
    scatter_S1024_S320000x1_S320000_n_0_0_1.resultIdx? (ix1 i) idx = some (ix1 s) ↔ (idx (ix2 i 0)).toInt = (s.val : ℤ) := by
  have hs : scatter_S1024_S320000x1_S320000_n_0_0_1.start (ix1 i) idx 0 = (idx (ix2 i 0)).toInt := by
    unfold ScatterDims.start
    rw [dif_pos (by decide)]
    congr 2
    funext b
    fin_cases b <;> rfl
  have hw : scatter_S1024_S320000x1_S320000_n_0_0_1.window (ix1 i) 0 = 0 := by
    unfold ScatterDims.window
    rw [dif_neg (by decide)]
  rw [Routing.resultIdx?_eq_some]
  constructor
  · intro h
    have := h 0
    rw [hs, hw] at this
    change (idx (ix2 i 0)).toInt + ((0 : ℕ) : ℤ) = (s.val : ℤ) at this
    omega
  · intro h a
    obtain rfl : a = 0 := Subsingleton.elim _ _
    rw [hs, hw, h]
    show (s.val : ℤ) + ((0 : ℕ) : ℤ) = (s.val : ℤ)
    omega

/-- A table of update rows lands in a table, row by row, at the words read signed. -/
theorem lands2 (idx : IVec S320000x1 32) (i : Fin 320000) (e : Fin 128) (s : Fin 1024) (d : Fin 128) :
    scatter_S1024x128_S320000x1_S320000x128_1_0_0_1.resultIdx? (ix2 i e) idx = some (ix2 s d) ↔ (idx (ix2 i 0)).toInt = (s.val : ℤ) ∧ e = d := by
  have hs : scatter_S1024x128_S320000x1_S320000x128_1_0_0_1.start (ix2 i e) idx 0 = (idx (ix2 i 0)).toInt := by
    unfold ScatterDims.start
    rw [dif_pos (by decide)]
    congr 2
    funext b
    fin_cases b <;> rfl
  have hs1 : scatter_S1024x128_S320000x1_S320000x128_1_0_0_1.start (ix2 i e) idx 1 = 0 := by
    unfold ScatterDims.start
    rw [dif_neg (by decide)]
  have hw : scatter_S1024x128_S320000x1_S320000x128_1_0_0_1.window (ix2 i e) 0 = 0 := by
    unfold ScatterDims.window
    rw [dif_neg (by decide)]
  have hw1 : scatter_S1024x128_S320000x1_S320000x128_1_0_0_1.window (ix2 i e) 1 = e.val := by
    unfold ScatterDims.window
    rw [dif_pos (by decide)]
    rfl
  rw [Routing.resultIdx?_eq_some]
  constructor
  · intro h
    have h0 := h 0
    have h1 := h 1
    rw [hs, hw] at h0
    rw [hs1, hw1] at h1
    change (idx (ix2 i 0)).toInt + ((0 : ℕ) : ℤ) = (s.val : ℤ) at h0
    change (0 : ℤ) + (e.val : ℤ) = (d.val : ℤ) at h1
    exact ⟨by omega, Fin.ext (by omega)⟩
  · rintro ⟨h, rfl⟩ a
    match a with
    | ⟨0, _⟩ =>
      show scatter_S1024x128_S320000x1_S320000x128_1_0_0_1.start (ix2 i e) idx 0 + (scatter_S1024x128_S320000x1_S320000x128_1_0_0_1.window (ix2 i e) 0 : ℤ) = (s.val : ℤ)
      rw [hs, hw]; omega
    | ⟨1, _⟩ =>
      show scatter_S1024x128_S320000x1_S320000x128_1_0_0_1.start (ix2 i e) idx 1 + (scatter_S1024x128_S320000x1_S320000x128_1_0_0_1.window (ix2 i e) 1 : ℤ) = (e.val : ℤ)
      rw [hs1, hw1]; omega

/-- The sum of a vector of updates by segment. -/
theorem scatter1_pt (x : FVec Ideal S1024 .f32) (idx : IVec S320000x1 32) (upd : FVec Ideal S320000 .f32) (n : Fin 320000 → ℕ)
    (hn : ∀ i, (idx (ix2 i 0)).toInt = (n i : ℤ)) (s : Fin 1024) :
    Host.scatterAdd scatter_S1024_S320000x1_S320000_n_0_0_1 x idx upd (ix1 s) = x (ix1 s) + ∑ i ∈ Finset.univ.filter (fun i => n i = s.val), upd (ix1 i) := by
  show x (ix1 s) + ∑ j ∈ Finset.univ.filter (fun j => scatter_S1024_S320000x1_S320000_n_0_0_1.resultIdx? j idx = some (ix1 s)), upd j = _
  refine congrArg (x (ix1 s) + ·) ?_
  refine Finset.sum_bij' (fun j _ => j 0) (fun i _ => ix1 i) ?_ ?_ ?_ ?_ ?_
  · intro j hj
    have h := (Finset.mem_filter.1 hj).2
    rw [eq_ix1 j] at h
    exact Finset.mem_filter.2 ⟨Finset.mem_univ _, Int.ofNat.inj ((hn (j 0)).symm.trans ((lands1 idx (j 0) s).1 h))⟩
  · intro i hi
    rw [Finset.mem_filter] at hi ⊢
    exact ⟨Finset.mem_univ _, (lands1 idx i s).2 (by rw [hn, hi.2])⟩
  · intro j _
    exact (eq_ix1 j).symm
  · intro i _
    rfl
  · intro j _
    exact congrArg upd (eq_ix1 j)

/-- The sum of a table of update rows by segment. -/
theorem scatter2_pt (x : FVec Ideal S1024x128 .f32) (idx : IVec S320000x1 32) (upd : FVec Ideal S320000x128 .f32) (n : Fin 320000 → ℕ)
    (hn : ∀ i, (idx (ix2 i 0)).toInt = (n i : ℤ)) (s : Fin 1024) (d : Fin 128) :
    Host.scatterAdd scatter_S1024x128_S320000x1_S320000x128_1_0_0_1 x idx upd (ix2 s d)
      = x (ix2 s d) + ∑ i ∈ Finset.univ.filter (fun i => n i = s.val), upd (ix2 i d) := by
  show x (ix2 s d) + ∑ j ∈ Finset.univ.filter (fun j => scatter_S1024x128_S320000x1_S320000x128_1_0_0_1.resultIdx? j idx = some (ix2 s d)), upd j = _
  refine congrArg (x (ix2 s d) + ·) ?_
  have key : ∀ j : S320000x128.Idx, scatter_S1024x128_S320000x1_S320000x128_1_0_0_1.resultIdx? j idx = some (ix2 s d) → n (j 0) = s.val ∧ j 1 = d := by
    intro j hj
    rw [eq_ix2 j] at hj
    have h := (lands2 idx (j 0) (j 1) s d).1 hj
    exact ⟨Int.ofNat.inj ((hn (j 0)).symm.trans h.1), h.2⟩
  have back : ∀ j : S320000x128.Idx, j 1 = d → ix2 (j 0) d = j := fun j h => by rw [← h]; exact (eq_ix2 j).symm
  refine Finset.sum_bij' (fun j _ => j 0) (fun i _ => ix2 i d) ?_ ?_ ?_ ?_ ?_
  · intro j hj
    exact Finset.mem_filter.2 ⟨Finset.mem_univ _, (key j (Finset.mem_filter.1 hj).2).1⟩
  · intro i hi
    rw [Finset.mem_filter] at hi ⊢
    exact ⟨Finset.mem_univ _, (lands2 idx i d s d).2 ⟨by rw [hn, hi.2], rfl⟩⟩
  · intro j hj
    exact back j (key j (Finset.mem_filter.1 hj).2).2
  · intro i _
    rfl
  · intro j hj
    exact congrArg upd (back j (key j (Finset.mem_filter.1 hj).2).2).symm

/-- A take from a table of segments, at a row's segment. -/
theorem take_pt (x : FVec Ideal S1024 .f32) (idx : IVec S320000x1 32) (i : Fin 320000) (s : Fin 1024) (h : (idx (ix2 i 0)).toInt = (s.val : ℤ)) :
    Host.gather gather_S1024_S320000x1_S320000_n_0_n_n_0_1_1 x idx (ix1 i) = x (ix1 s) := by
  have e := StableHlo.Predicate.gather_take gather_S1024_S320000x1_S320000_n_0_n_n_0_1_1 rfl rfl rfl rfl x idx i (by decide)
  have e1 : (Shape.Idx.ofFin i : S320000.Idx) = ix1 i := by funext a; obtain rfl : a = 0 := Subsingleton.elim _ _; rfl
  have e2 : (StableHlo.Predicate.ixP i : S320000x1.Idx) = ix2 i 0 := by funext a; fin_cases a <;> rfl
  rw [e1] at e
  rw [e]
  congr 1
  funext a
  obtain rfl : a = 0 := Subsingleton.elim _ _
  refine Fin.ext ?_
  show min (idx (StableHlo.Predicate.ixP i)).toInt.toNat (1024 - 1) = s.val
  rw [e2, h]
  have := s.isLt
  omega

end Cert.ReferenceIdeal.Hand
-- ==== Proof.RowTop.lean ====
module

public import proofs.«01_k».proof.Proof.Scatter
public import Idealize.ShloMosaic.Lib.Routing.OpsPair
public import Idealize.ShloMosaic.Lib.StableHlo.Predicate
public import Idealize.ShloMosaic.Lib.Pointwise

@[expose] public section

set_option maxRecDepth 16384

noncomputable section

/-! # The largest entry of each row of a table, not below zero -/

namespace Cert.ReferenceIdeal.Hand

open Cert.ReferenceIdeal Cert.ReferenceIdeal.Gen Cert.Pool
open Idealize.ShloMosaic Idealize.ShloMosaic.TcCoe Idealize.ShloMosaic.Tactic

/-- A fold along the second axis of a table is the fold of the row. -/
theorem reduce_row {M N : ℕ} {u : Shape} (x : FVec Ideal ⟨2, ![M, N]⟩ .f32) (init : FVec Ideal u .f32)
    (h' : Shape.ReducesTo (⟨2, ![M, N]⟩ : Shape) [1] ⟨1, ![M]⟩) (h : Shape.Reduces (⟨2, ![M, N]⟩ : Shape) [1] ⟨1, ![M]⟩) (hu : 0 < u.numel) (r : Fin M) :
    Host.reduce (FloatOps.maximumf (F := Ideal)) x init h' hu (ix1 r) = Finset.univ.fold max (init (Shape.Idx.first hu)) fun k : Fin N => x (ix2 r k) := by
  rw [Host.reduce_eq_fold_single (FloatOps.maximumf (F := Ideal)) x init h' h hu (ix1 r)]
  refine Finset.fold_congr fun k _ => ?_
  refine congrArg x ?_
  funext c
  refine Fin.ext ?_
  fin_cases c <;> rfl

/-- The largest of the scores inside a set and of zeros outside it, not below zero. -/
theorem fold_top {ι : Type} [Fintype ι] [DecidableEq ι] (p : ι → Prop) [DecidablePred p] (g : ι → EReal) :
    max (Finset.univ.fold max ⊥ fun i => if p i then g i else 0) 0 = top g (Finset.univ.filter p) := by
  show max (Finset.univ.sup fun i => if p i then g i else 0) 0 = max 0 ((Finset.univ.filter p).sup g)
  apply le_antisymm
  · refine max_le (Finset.sup_le fun i _ => ?_) (le_max_left _ _)
    by_cases h : p i
    · rw [if_pos h]
      exact le_max_of_le_right (Finset.le_sup (f := g) (Finset.mem_filter.2 ⟨Finset.mem_univ i, h⟩))
    · rw [if_neg h]
      exact le_max_left _ _
  · refine max_le (le_max_right _ _) (Finset.sup_le fun i hi => le_max_of_le_left ?_)
    refine le_trans ?_ (Finset.le_sup (f := fun i => if p i then g i else 0) (Finset.mem_univ i))
    exact (if_pos (Finset.mem_filter.1 hi).2).ge

/-- The largest entry of each row, not below zero. -/
def rowTop (k : FVec Ideal S1024x320000 .f32) : FVec Ideal S1024 .f32 :=
  maximumf (Host.reduce FloatOps.maximumf k (constant S_ .f32 0xFF800000#32) reducesTo_S1024x320000_S1024_d1 h_S_) (broadcastInDim S1024 ![] bcast_S_S1024 (constant S_ .f32 0x00000000#32))

/-- Dropping the second axis of the table leaves its rows. -/
theorem reduces_row : (S1024x320000 : Shape).Reduces [1] S1024 := by decide

/-- The maximum along a row is a fold over the row. -/
theorem rowMax_pt (k : FVec Ideal S1024x320000 .f32) (s : Fin 1024) :
    Host.reduce (FloatOps.maximumf (F := Ideal)) k (constant (F := Ideal) S_ .f32 0xFF800000#32) reducesTo_S1024x320000_S1024_d1 h_S_ (ix1 s)
      = Finset.univ.fold max (constant (F := Ideal) S_ .f32 0xFF800000#32 (Shape.Idx.first h_S_)) fun i : Fin 320000 => k (ix2 s i) :=
  reduce_row k (constant (F := Ideal) S_ .f32 0xFF800000#32) reducesTo_S1024x320000_S1024_d1 reduces_row h_S_ s

/-- The fold begins at minus infinity. -/
theorem first_ninf : constant (F := Ideal) S_ .f32 0xFF800000#32 (Shape.Idx.first h_S_) = (⊥ : EReal) := by
  show Ideal.ofBits .f32 0xFF800000#32 = ⊥
  simp [Ideal.ofBits, Ideal.ieee]

/-- The maximum with zero, at one segment. -/
theorem max_zero_pt (k : FVec Ideal S1024 .f32) (s : Fin 1024) :
    maximumf k (broadcastInDim S1024 ![] bcast_S_S1024 (constant (F := Ideal) S_ .f32 0x00000000#32)) (ix1 s) = max (k (ix1 s)) 0 := by
  pointwise

/-- Of a table with a set's scores inside the set and zeros outside, a row's largest entry, not below zero, is the set's `top`. -/
theorem rowTop_pt (k : FVec Ideal S1024x320000 .f32) (s : Fin 1024) (p : Fin 320000 → Prop) [DecidablePred p] (g : Fin 320000 → EReal)
    (hk : ∀ i, k (ix2 s i) = if p i then g i else 0) : rowTop k (ix1 s) = top g (Finset.univ.filter p) := by
  have e : (fun i => k (ix2 s i)) = fun i => if p i then g i else 0 := funext hk
  rw [← fold_top p g, ← e, ← first_ninf, ← rowMax_pt]
  exact max_zero_pt _ s

end Cert.ReferenceIdeal.Hand
-- ==== Proof.Ref.lean ====
module

public import proofs.«01_k».proof.Proof.RowTop
public import Idealize.ShloMosaic.Lib.Pointwise

@[expose] public section

set_option maxRecDepth 16384

noncomputable section

/-! # The reference read at one element -/

namespace Cert.ReferenceIdeal.Hand

open Cert.ReferenceIdeal Cert.ReferenceIdeal.Gen Cert.Pool
open Idealize.ShloMosaic Idealize.ShloMosaic.TcCoe Idealize.ShloMosaic.Tactic

variable (x : FVec Ideal S320000x128 .f32) (b : IVec S320000 32) (w1 : FVec Ideal S128x128 .f32) (b1 : FVec Ideal S128 .f32)
  (w2 : FVec Ideal S1x128 .f32) (b2 : FVec Ideal S1 .f32)

/-- The hidden layer. -/
def hidR : FVec Ideal S320000x128 .f32 :=
  maximumf (addf (Host.dotGeneral dot_S320000x128_S128x128_S320000x128_1_0_0_1_n_n none x (transpose S128x128 [1, 0] w1 transposes_S128x128_S128x128_1_0)) (broadcastInDim S320000x128 ![0, 1] bcast_S1x128_S320000x128_0_1 (broadcastInDim S1x128 ![1] bcast_S128_S1x128_1 b1))) (broadcastInDim S320000x128 ![] bcast_S_S320000x128 (constant S_ .f32 0x00000000#32))

/-- The scores, as a column. -/
def colR : FVec Ideal S320000x1 .f32 :=
  addf (Host.dotGeneral dot_S320000x128_S128x1_S320000x1_1_0_0_1_n_n none (hidR x w1 b1) (transpose S128x1 [1, 0] w2 transposes_S1x128_S128x1_1_0)) (broadcastInDim S320000x1 ![0, 1] bcast_S1x1_S320000x1_0_1 (broadcastInDim S1x1 ![1] bcast_S1_S1x1_1 b2))

/-- The scores. -/
def gateR : FVec Ideal S320000 .f32 := shapeCast _ (colR x w1 b1 w2 b2) shapeCasts_S320000x1_S320000

/-- The column of ids, a negative one counted from the end of the table. -/
def idR : IVec S320000x1 32 :=
  broadcastInDim S320000x1 ![0] bcast_S320000_S320000x1_0 (select (cmpi .slt b (broadcastInDim S320000 ![] bcast_S_S320000 (constantI S_ 32 0#32))) (addi b (broadcastInDim S320000 ![] bcast_S_S320000 (constantI S_ 32 1024#32))) b)

/-- Each segment's row of scores, zero at the rows of the other segments. -/
def maskR (g : FVec Ideal S320000 .f32) : FVec Ideal S1024x320000 .f32 :=
  select (cmpi .eq (broadcastInDim S1024x320000 ![0, 1] bcast_S1x320000_S1024x320000_0_1 (broadcastInDim S1x320000 ![1] bcast_S320000_S1x320000_1 b)) (broadcastInDim S1024x320000 ![0, 1] bcast_S1024x1_S1024x320000_0_1 (broadcastInDim S1024x1 ![0] bcast_S1024_S1024x1_0 (iotaInDim S1024 32 0)))) (broadcastInDim S1024x320000 ![0, 1] bcast_S1x320000_S1024x320000_0_1 (broadcastInDim S1x320000 ![1] bcast_S320000_S1x320000_1 g)) (broadcastInDim S1024x320000 ![] bcast_S_S1024x320000 (id (constant S_ .f32 0x00000000#32)))

/-- The segments' maxima. -/
def topR (g : FVec Ideal S320000 .f32) : FVec Ideal S1024 .f32 := rowTop (maskR b g)

/-- The unnormalised weights. -/
def expR (g : FVec Ideal S320000 .f32) : FVec Ideal S320000 .f32 :=
  Host.exp (subf g (Host.gather gather_S1024_S320000x1_S320000_n_0_n_n_0_1_1 (topR b g) (idR b)))

/-- The sums of the weights by segment. -/
def sumR (e : FVec Ideal S320000 .f32) : FVec Ideal S1024 .f32 :=
  Host.scatterAdd scatter_S1024_S320000x1_S320000_n_0_0_1 (broadcastInDim S1024 ![] bcast_S_S1024 (constant S_ .f32 0x00000000#32)) (idR b) e

/-- The normalised weights. -/
def weightR (e : FVec Ideal S320000 .f32) : FVec Ideal S320000 .f32 :=
  Host.divf e (addf (Host.gather gather_S1024_S320000x1_S320000_n_0_n_n_0_1_1 (sumR b e) (idR b)) (broadcastInDim S320000 ![] bcast_S_S320000 (constant S_ .f32 0x3089705F#32)))

/-- The weighted rows. -/
def rowsR (w : FVec Ideal S320000 .f32) : FVec Ideal S320000x128 .f32 :=
  mulf x (broadcastInDim S320000x128 ![0, 1] bcast_S320000x1_S320000x128_0_1 (broadcastInDim S320000x1 ![0] bcast_S320000_S320000x1_0 w))

/-- The pooled table. -/
def poolR : FVec Ideal S1024x128 .f32 :=
  Host.scatterAdd scatter_S1024x128_S320000x1_S320000x128_1_0_0_1 (broadcastInDim S1024x128 ![] bcast_S_S1024x128 (constant S_ .f32 0x00000000#32)) (idR b)
    (rowsR x (weightR b (expR b (gateR x w1 b1 w2 b2))))

/-- The hidden layer at a row and unit. -/
theorem hidR_pt (i : Fin 320000) (j : Fin 128) : hidR x w1 b1 (ix2 i j) = max ((∑ k : Fin 128, x (ix2 i k) * w1 (ix2 j k)) + b1 (ix1 j)) 0 := by
  pointwise [hidR]

/-- The score column at a row. -/
theorem colR_pt (i : Fin 320000) : colR x w1 b1 w2 b2 (ix2 i 0) = (∑ j : Fin 128, hidR x w1 b1 (ix2 i j) * w2 (ix2 0 j)) + b2 (ix1 0) := by
  unfold colR
  generalize hidR x w1 b1 = h
  pointwise

/-- The score of a row. -/
theorem gateR_pt (i : Fin 320000) : gateR x w1 b1 w2 b2 (ix1 i) = colR x w1 b1 w2 b2 (ix2 i 0) := by
  unfold gateR
  generalize colR x w1 b1 w2 b2 = g
  pointwise

/-- The id of a row; one in the table is left as it is. -/
theorem idR_pt (i : Fin 320000) (h : (b (ix1 i)).toNat < 1024) : idR b (ix2 i 0) = b (ix1 i) := by
  pointwise [idR]
  exact Routing.wrap_of_lt _ _ (by omega)

/-- The id of a row, read signed. -/
theorem idR_toInt (i : Fin 320000) (h : (b (ix1 i)).toNat < 1024) : (idR b (ix2 i 0)).toInt = ((b (ix1 i)).toNat : ℤ) := by
  rw [idR_pt b i h, BitVec.toInt_eq_toNat_of_lt (by omega)]

/-- A segment's row of scores at one row of the input. -/
theorem maskR_pt (g : FVec Ideal S320000 .f32) (s : Fin 1024) (i : Fin 320000) :
    maskR b g (ix2 s i) = if (b (ix1 i)).toNat = s.val then g (ix1 i) else 0 := by
  have e : maskR b g (ix2 s i) = Scalar.select (IntOp.cmpi CmpIPredicate.eq (b (ix1 i)) (BitVec.ofNat 32 s.val)) (g (ix1 i)) (0 : EReal) := by
    pointwise [maskR]
    first | rfl | (show Scalar.select _ _ (constant (F := Ideal) S_ .f32 0#32 ix0) = _; simp [constant, Ideal.ofBits, Ideal.ieee])
  have hs := s.isLt
  rw [e]
  by_cases h : (b (ix1 i)).toNat = s.val
  · have hb : b (ix1 i) = BitVec.ofNat 32 s.val := BitVec.eq_of_toNat_eq (by rw [h, BitVec.toNat_ofNat, Nat.mod_eq_of_lt (by omega)])
    rw [if_pos h, hb]
    simp [IntOp.cmpi, Scalar.select]
  · have hb : b (ix1 i) ≠ BitVec.ofNat 32 s.val := fun h' => h (by rw [h', BitVec.toNat_ofNat, Nat.mod_eq_of_lt (by omega)])
    rw [if_neg h]
    have hc : (b (ix1 i) == BitVec.ofNat 32 s.val) = false := by simpa using hb
    simp [IntOp.cmpi, Scalar.select, hc]

/-- A segment's maximum: the larger of zero and the largest score among its rows. -/
theorem topR_pt (g : FVec Ideal S320000 .f32) (s : Fin 1024) :
    topR b g (ix1 s) = top (fun i => g (ix1 i)) (Finset.univ.filter fun i => (b (ix1 i)).toNat = s.val) :=
  rowTop_pt (maskR b g) s (fun i => (b (ix1 i)).toNat = s.val) (fun i => g (ix1 i)) (fun i => maskR_pt b g s i)

/-! ## From the scores to the pooled table -/

variable (hlt : ∀ i, (b (ix1 i)).toNat < 1024)

/-- The rows of segment `s`. -/
abbrev rowsOf (s : ℕ) : Finset (Fin 320000) := Finset.univ.filter fun i => (b (ix1 i)).toNat = s

include hlt in
/-- A row's unnormalised weight: the exponential of its score less its segment's maximum. -/
theorem expR_pt (g : FVec Ideal S320000 .f32) (i : Fin 320000) (s : Fin 1024) (h : (b (ix1 i)).toNat = s.val) :
    expR b g (ix1 i) = Ideal.exp (g (ix1 i) - topR b g (ix1 s)) := by
  have e := take_pt (topR b g) (idR b) i s (by rw [idR_toInt b i (hlt i), h])
  unfold expR
  generalize Host.gather gather_S1024_S320000x1_S320000_n_0_n_n_0_1_1 (topR b g) (idR b) = y at e ⊢
  rw [← e]
  rfl

include hlt in
/-- The sum of a segment's entries. -/
theorem sumR_pt (e : FVec Ideal S320000 .f32) (s : Fin 1024) : sumR b e (ix1 s) = ∑ i ∈ rowsOf b s.val, e (ix1 i) := by
  unfold sumR
  rw [scatter1_pt _ (idR b) e (fun i => (b (ix1 i)).toNat) (fun i => idR_toInt b i (hlt i)) s]
  refine Eq.trans (congrArg (· + _) ?_) (zero_add _)
  show Ideal.ofBits .f32 0#32 = 0
  simp [Ideal.ofBits, Ideal.ieee]

include hlt in
/-- A row's weight: its entry over its segment's sum, the sum offset by a small constant. -/
theorem weightR_pt (e : FVec Ideal S320000 .f32) (i : Fin 320000) (s : Fin 1024) (h : (b (ix1 i)).toNat = s.val) :
    weightR b e (ix1 i) = Ideal.div (e (ix1 i)) (sumR b e (ix1 s) + Ideal.ofBits .f32 0x3089705F#32) := by
  have t := take_pt (sumR b e) (idR b) i s (by rw [idR_toInt b i (hlt i), h])
  unfold weightR
  generalize Host.gather gather_S1024_S320000x1_S320000_n_0_n_n_0_1_1 (sumR b e) (idR b) = y at t ⊢
  rw [← t]
  pointwise

/-- A weighted row at a feature. -/
theorem rowsR_pt (w : FVec Ideal S320000 .f32) (i : Fin 320000) (d : Fin 128) : rowsR x w (ix2 i d) = x (ix2 i d) * w (ix1 i) := by
  pointwise [rowsR]

include hlt in
/-- The pooled table at segment `s`, feature `d`. -/
theorem poolR_pt (s : Fin 1024) (d : Fin 128) :
    poolR x b w1 b1 w2 b2 (ix2 s d)
      = ∑ i ∈ rowsOf b s.val, x (ix2 i d)
          * Ideal.div (Ideal.exp (gateR x w1 b1 w2 b2 (ix1 i) - top (fun i => gateR x w1 b1 w2 b2 (ix1 i)) (rowsOf b s.val)))
              (wsum (fun i => gateR x w1 b1 w2 b2 (ix1 i)) (fun _ => 1) (rowsOf b s.val) + Ideal.ofBits .f32 0x3089705F#32) := by
  unfold poolR
  generalize gateR x w1 b1 w2 b2 = g
  rw [scatter2_pt _ (idR b) _ (fun i => (b (ix1 i)).toNat) (fun i => idR_toInt b i (hlt i)) s d]
  refine Eq.trans (congrArg (· + _) (?_ : _ = (0 : EReal))) ((zero_add _).trans ?_)
  · show Ideal.ofBits .f32 0#32 = 0
    simp [Ideal.ofBits, Ideal.ieee]
  have hw : sumR b (expR b g) (ix1 s) = wsum (fun i => g (ix1 i)) (fun _ => 1) (rowsOf b s.val) := by
    rw [sumR_pt b hlt]
    unfold wsum psum
    refine Finset.sum_congr rfl fun i hi => ?_
    rw [expR_pt b hlt g i s (Finset.mem_filter.1 hi).2, topR_pt, mul_one]
  refine Finset.sum_congr rfl fun i hi => ?_
  have h := (Finset.mem_filter.1 hi).2
  rw [rowsR_pt, weightR_pt b hlt _ i s h, hw, expR_pt b hlt g i s h, topR_pt]

end Cert.ReferenceIdeal.Hand
-- ==== Proof.Equal.lean ====
module

public import proofs.«01_k».proof.Proof.Twin
public import proofs.«01_k».proof.Proof.Final
public import proofs.«01_k».proof.Proof.Ref

@[expose] public section

set_option maxRecDepth 16384

noncomputable section

/-! # The kernel's result is the reference's -/

namespace Cert.Proof

open Cert Cert.Pool Idealize.ShloMosaic Idealize.ShloMosaic.TcCoe Idealize.SL.Sem

/-- The reference's result, from its arguments. -/
theorem res_eq (m' : (ℓ : Loc ReferenceIdeal.nD ReferenceIdeal.τ ReferenceIdeal.sig) → Buf (Elt Ideal) ℓ) (c : Dev ReferenceIdeal.nD) :
    ReferenceIdeal.Value.res_main_v61 (F := Ideal) m' c
      = ReferenceIdeal.Hand.poolR (m' ((c.tc : Thread ReferenceIdeal.nD ReferenceIdeal.τ).loc ReferenceIdeal.main_arg0))
          (m' ((c.tc : Thread ReferenceIdeal.nD ReferenceIdeal.τ).loc ReferenceIdeal.main_arg1))
          (m' ((c.tc : Thread ReferenceIdeal.nD ReferenceIdeal.τ).loc ReferenceIdeal.main_arg2))
          (m' ((c.tc : Thread ReferenceIdeal.nD ReferenceIdeal.τ).loc ReferenceIdeal.main_arg3))
          (m' ((c.tc : Thread ReferenceIdeal.nD ReferenceIdeal.τ).loc ReferenceIdeal.main_arg4))
          (m' ((c.tc : Thread ReferenceIdeal.nD ReferenceIdeal.τ).loc ReferenceIdeal.main_arg5)) := rfl

open KernelIdeal KernelIdeal.Hand

variable (m : (ℓ : Loc nD τ sig) → Buf (Elt Ideal) ℓ) (c : Dev nD)

/-- The reference's score of a row is the kernel's. -/
theorem gate_eq (i : Fin 320000) :
    ReferenceIdeal.Hand.gateR (m ((c : Thread nD τ).loc main_arg0)) (m ((c : Thread nD τ).loc main_arg2)) (m ((c : Thread nD τ).loc main_arg3))
      (m ((c : Thread nD τ).loc main_arg4)) (m ((c : Thread nD τ).loc main_arg5)) (ix1 i) = gate m c i := by
  rw [ReferenceIdeal.Hand.gateR_pt, ReferenceIdeal.Hand.colR_pt]
  unfold gate
  refine congrArg (· + _) (Finset.sum_congr rfl fun j _ => ?_)
  rw [ReferenceIdeal.Hand.hidR_pt, mul_comm]

/-- The reference's table is what the kernel's last point stores. -/
theorem pool_eq (h : PreOK m c) (hk : ChkOK m c) :
    ReferenceIdeal.Hand.poolR (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      = outPay c (stAt m c hk KernelIdeal.cfg0.N) := by
  refine funext fun (o : S1024x128.Idx) => ?_
  rw [eq_ix2 o]
  refine Eq.trans (ReferenceIdeal.Hand.poolR_pt _ _ _ _ _ _ h.lt (o 0) (o 1)) (Eq.trans ?_ (outPay_pt m c h hk (o 0) (o 1)).symm)
  have hg : (fun i => ReferenceIdeal.Hand.gateR (m ((c : Thread nD τ).loc main_arg0)) (m ((c : Thread nD τ).loc main_arg2)) (m ((c : Thread nD τ).loc main_arg3))
      (m ((c : Thread nD τ).loc main_arg4)) (m ((c : Thread nD τ).loc main_arg5)) (ix1 i)) = gate m c := funext (gate_eq m c)
  rw [hg]
  unfold KernelIdeal.Hand.pool rows
  exact Finset.sum_congr rfl fun i _ => by rw [gate_eq]

end Cert.Proof
-- ==== Proof.lean ====
module

public import proofs.«01_k».proof.Defs
public import proofs.«01_k».proof.Proof.Twin
public import proofs.«01_k».proof.Proof.Equal
public import proofs.«01_k».proof.Proof.Gen.ReferenceIdeal.Run
public import proofs.«01_k».proof.Proof.Gen.Pre_sorted_segments
public import Idealize.ShloMosaic.Lib.Claim

@[expose] public section

noncomputable section

namespace Cert.Proof

open Idealize.ShloMosaic Idealize.ShloMosaic.TcCoe Idealize.ShloMosaic.Tactic Idealize.SL.Sem

/-- Every run of the reference ends with its arguments as they were and every semaphore at rest. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same from the arguments the kernel's claims ask for. -/
theorem frame_reference_sorted : Cert.quiescent_ReferenceIdeal_pre_sorted_segments := fun m g _ => frame_reference m g trivial

open KernelIdeal.Hand in
/-- From equal arguments, with the ids in order and in the table, the kernel and the reference end with equal results. -/
theorem algebraic : Cert.algebraic_KernelIdeal_ReferenceIdeal := by
  intro m g m' g' hpre hagree
  have hp : ∀ c, PreOK m c := fun c => preOK m c _ _ _ _ _ (hpre c)
  have hk : ∀ c, ChkOK m c := fun c => chkOK m c (hp c)
  refine ⟨fun c => outPay c (stAt m c (hk c) KernelIdeal.cfg0.N), run_val m g hk, ?_⟩
  refine (θ_run Cert.ReferenceIdeal.defs _ _).mono (fun r hr c => ⟨?_, (hr c).2⟩) (Cert.ReferenceIdeal.Value.run (F := Ideal) m' g')
  obtain ⟨e0, e1, e2, e3, e4, e5⟩ := hagree c
  rw [(hr c).1, res_eq, e0, e1, e2, e3, e4, e5]
  exact pool_eq m c (hp c) (hk c)

/-- `Cert.Claim`: the frames, equal results, and the kernel's reading over the extended reals being the printed program's. -/
theorem claim : Cert.Claim :=
  ⟨Cert.Kernel.Gen.facts, Cert.KernelIdeal.Gen.facts, Cert.ReferenceIdeal.Gen.facts, Cert.Pre_sorted_segments.Gen.facts,
    frame_kernel, frame_ideal, frame_reference, frame_reference_sorted, trivial, algebraic⟩

end Cert.Proof

end
